-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pages_named_KernelIdeal [hPre_pages_named_KernelIdeal : Cert.Pre_pages_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pages_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_pages_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_pages_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_pages_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pages_named_ReferenceIdeal [hPre_pages_named_ReferenceIdeal : Cert.Pre_pages_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pages_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_pages_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_pages_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_pages_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pages_named_KernelIdeal [hKernelIdeal : Cert.KernelIdeal.Facts] [hPre_pages_named_KernelIdeal : Cert.Pre_pages_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pages_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pages_named_ReferenceIdeal [hReferenceIdeal : Cert.ReferenceIdeal.Facts] [hPre_pages_named_ReferenceIdeal : Cert.Pre_pages_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pages_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pages_named_KernelIdeal [hKernelIdeal : Cert.KernelIdeal.Facts] [hReferenceIdeal : Cert.ReferenceIdeal.Facts] [hPre_pages_named_KernelIdeal : Cert.Pre_pages_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pages_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![128, 16, 16, 64]⟩ ⟨4, ![4096, 16, 16, 64]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![128, 16, 16, 64]⟩ ⟨4, ![4096, 16, 16, 64]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pages_named_KernelIdeal : Cert.Pre_pages_named_KernelIdeal.Facts) (hPre_pages_named_ReferenceIdeal : Cert.Pre_pages_named_ReferenceIdeal.Facts),
    quiescent_Kernel (hKernel := hKernel)
    ∧ quiescent_KernelIdeal (hKernelIdeal := hKernelIdeal)
    ∧ quiescent_KernelIdeal_pre_pages_named_KernelIdeal (hKernelIdeal := hKernelIdeal) (hPre_pages_named_KernelIdeal := hPre_pages_named_KernelIdeal)
    ∧ quiescent_ReferenceIdeal (hReferenceIdeal := hReferenceIdeal)
    ∧ quiescent_ReferenceIdeal_pre_pages_named_ReferenceIdeal (hReferenceIdeal := hReferenceIdeal) (hPre_pages_named_ReferenceIdeal := hPre_pages_named_ReferenceIdeal)
    ∧ preserves_Kernel_KernelIdeal
    ∧ algebraic_KernelIdeal_ReferenceIdeal_pre_pages_named_KernelIdeal (hKernelIdeal := hKernelIdeal) (hReferenceIdeal := hReferenceIdeal) (hPre_pages_named_KernelIdeal := hPre_pages_named_KernelIdeal)
-- ==== Pre_pages_named_KernelIdeal.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bitsLt_bf16_f32 : FTy.bits .bf16 < FTy.bits .f32
  bcast_S_S16x1x16x64 : S_.BroadcastsInDim S16x1x16x64 (![] : Fin 0 → Fin S16x1x16x64.rank)
  bcast_S_S128x16x16x64 : S_.BroadcastsInDim S128x16x16x64 (![] : Fin 0 → Fin S128x16x16x64.rank)
  bcast_S_S16 : S_.BroadcastsInDim S16 (![] : Fin 0 → Fin S16.rank)
  bcast_S_S16x128 : S_.BroadcastsInDim S16x128 (![] : Fin 0 → Fin S16x128.rank)

variable [Facts]

def fn_part1 {F : FTy → Type} [FloatOps F] (main_arg3 : IVec S16x128 32) (main_v9 : IVec S16x1x16x64 1) (main_v13 : IVec S128x16x16x64 1) (main_v15 : IVec S16 1) (main_v16 : IVec S16x128 1) (main_v18 : IVec S16x128 1) (main_c_2 : IVec S_ 32) : IVec S16x1x16x64 1 × IVec S128x16x16x64 1 × IVec S16 1 × IVec S16x128 1 :=
  let main_v19 : IVec S16x128 32 := broadcastInDim S16x128 ![] bcast_S_S16x128 main_c_2
  let main_v20 : IVec S16x128 1 := cmpi .slt main_arg3 main_v19
  let main_v21 : IVec S16x128 1 := andi main_v18 main_v20
  let main_v22 : IVec S16x128 1 := ori main_v16 main_v21
  (main_v9, main_v13, main_v15, main_v22)

def fn {F : FTy → Type} [FloatOps F] (main_arg0 : FVec F S16x1x16x64 .bf16) (main_arg1 : FVec F S128x16x16x64 .bf16) (main_arg2 : FVec F S128x16x16x64 .bf16) (main_arg3 : IVec S16x128 32) (main_arg4 : IVec S16 32) : IVec S16x1x16x64 1 × IVec S128x16x16x64 1 × IVec S16 1 × IVec S16x128 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_v6 : FVec F S16x1x16x64 .f32 := (extf .f32 · bitsLt_bf16_f32) main_arg0
  let main_v7 : FVec F S16x1x16x64 .f32 := Host.absf main_v6
  let main_cst : FVec F S_ .f32 := constant S_ .f32 0x7F800000#32
  let main_v8 : FVec F S16x1x16x64 .f32 := broadcastInDim S16x1x16x64 ![] bcast_S_S16x1x16x64 main_cst
  let main_v9 : IVec S16x1x16x64 1 := cmpf .olt main_v7 main_v8
  let main_v10 : FVec F S128x16x16x64 .f32 := (extf .f32 · bitsLt_bf16_f32) main_arg1
  let main_v11 : FVec F S128x16x16x64 .f32 := Host.absf main_v10
  let main_cst_0 : FVec F S_ .f32 := constant S_ .f32 0x7F800000#32
  let main_v12 : FVec F S128x16x16x64 .f32 := broadcastInDim S128x16x16x64 ![] bcast_S_S128x16x16x64 main_cst_0
  let main_v13 : IVec S128x16x16x64 1 := cmpf .olt main_v11 main_v12
  let main_c : IVec S_ 32 := constantI S_ 32 0#32
  let main_v14 : IVec S16 32 := broadcastInDim S16 ![] bcast_S_S16 main_c
  let main_v15 : IVec S16 1 := cmpi .sgt main_arg4 main_v14
  let main_v16 : IVec S16x128 1 := noti main_v5
  let main_c_1 : IVec S_ 32 := constantI S_ 32 0#32
  let main_v17 : IVec S16x128 32 := broadcastInDim S16x128 ![] bcast_S_S16x128 main_c_1
  let main_v18 : IVec S16x128 1 := cmpi .sge main_arg3 main_v17
  let main_c_2 : IVec S_ 32 := constantI S_ 32 4096#32
  fn_part1 (F := F) main_arg3 main_v9 main_v13 main_v15 main_v16 main_v18 main_c_2
-- ==== Pre_pages_named_ReferenceIdeal.lean ====
abbrev S16x1x16x64 : Shape := ⟨4, ![16, 1, 16, 64]⟩
abbrev S4096x16x16x64 : Shape := ⟨4, ![4096, 16, 16, 64]⟩
abbrev S16x128 : Shape := ⟨2, ![16, 128]⟩
abbrev S16 : Shape := ⟨1, ![16]⟩
abbrev S128 : Shape := ⟨1, ![128]⟩
abbrev S1x128 : Shape := ⟨2, ![1, 128]⟩
abbrev S16x1 : Shape := ⟨2, ![16, 1]⟩
abbrev S_ : Shape := ⟨0, ![]⟩

class Facts : Prop where
  bcast_S128_S1x128_1 : S128.BroadcastsInDim S1x128 (![1] : Fin 1 → Fin S1x128.rank)
  bcast_S16_S16x1_0 : S16.BroadcastsInDim S16x1 (![0] : Fin 1 → Fin S16x1.rank)
  bcast_S1x128_S16x128_0_1 : S1x128.BroadcastsInDim S16x128 (![0, 1] : Fin 2 → Fin S16x128.rank)
  bcast_S16x1_S16x128_0_1 : S16x1.BroadcastsInDim S16x128 (![0, 1] : Fin 2 → Fin S16x128.rank)
  bitsLt_bf16_f32 : FTy.bits .bf16 < FTy.bits .f32
  bcast_S_S16x1x16x64 : S_.BroadcastsInDim S16x1x16x64 (![] : Fin 0 → Fin S16x1x16x64.rank)
  bcast_S_S4096x16x16x64 : S_.BroadcastsInDim S4096x16x16x64 (![] : Fin 0 → Fin S4096x16x16x64.rank)
  bcast_S_S16 : S_.BroadcastsInDim S16 (![] : Fin 0 → Fin S16.rank)
  bcast_S_S16x128 : S_.BroadcastsInDim S16x128 (![] : Fin 0 → Fin S16x128.rank)

variable [Facts]

def fn_part1 {F : FTy → Type} [FloatOps F] (main_arg3 : IVec S16x128 32) (main_v9 : IVec S16x1x16x64 1) (main_v13 : IVec S4096x16x16x64 1) (main_v15 : IVec S16 1) (main_v16 : IVec S16x128 1) (main_v18 : IVec S16x128 1) (main_c_2 : IVec S_ 32) : IVec S16x1x16x64 1 × IVec S4096x16x16x64 1 × IVec S16 1 × IVec S16x128 1 :=
  let main_v19 : IVec S16x128 32 := broadcastInDim S16x128 ![] bcast_S_S16x128 main_c_2
  let main_v20 : IVec S16x128 1 := cmpi .slt main_arg3 main_v19
  let main_v21 : IVec S16x128 1 := andi main_v18 main_v20
  let main_v22 : IVec S16x128 1 := ori main_v16 main_v21
  (main_v9, main_v13, main_v15, main_v22)

def fn {F : FTy → Type} [FloatOps F] (main_arg0 : FVec F S16x1x16x64 .bf16) (main_arg1 : FVec F S4096x16x16x64 .bf16) (main_arg2 : FVec F S4096x16x16x64 .bf16) (main_arg3 : IVec S16x128 32) (main_arg4 : IVec S16 32) : IVec S16x1x16x64 1 × IVec S4096x16x16x64 1 × IVec S16 1 × IVec S16x128 1 :=
  let main_v0 : IVec S128 32 := iotaInDim S128 32 0
  let main_v1 : IVec S1x128 32 := broadcastInDim S1x128 ![1] bcast_S128_S1x128_1 main_v0
  let main_v2 : IVec S16x1 32 := broadcastInDim S16x1 ![0] bcast_S16_S16x1_0 main_arg4
  let main_v3 : IVec S16x128 32 := broadcastInDim S16x128 ![0, 1] bcast_S1x128_S16x128_0_1 main_v1
  let main_v4 : IVec S16x128 32 := broadcastInDim S16x128 ![0, 1] bcast_S16x1_S16x128_0_1 main_v2
  let main_v5 : IVec S16x128 1 := cmpi .slt main_v3 main_v4
  let main_v6 : FVec F S16x1x16x64 .f32 := (extf .f32 · bitsLt_bf16_f32) main_arg0
  let main_v7 : FVec F S16x1x16x64 .f32 := Host.absf main_v6
  let main_cst : FVec F S_ .f32 := constant S_ .f32 0x7F800000#32
  let main_v8 : FVec F S16x1x16x64 .f32 := broadcastInDim S16x1x16x64 ![] bcast_S_S16x1x16x64 main_cst
  let main_v9 : IVec S16x1x16x64 1 := cmpf .olt main_v7 main_v8
  let main_v10 : FVec F S4096x16x16x64 .f32 := (extf .f32 · bitsLt_bf16_f32) main_arg1
  let main_v11 : FVec F S4096x16x16x64 .f32 := Host.absf main_v10
  let main_cst_0 : FVec F S_ .f32 := constant S_ .f32 0x7F800000#32
  let main_v12 : FVec F S4096x16x16x64 .f32 := broadcastInDim S4096x16x16x64 ![] bcast_S_S4096x16x16x64 main_cst_0
  let main_v13 : IVec S4096x16x16x64 1 := cmpf .olt main_v11 main_v12
  let main_c : IVec S_ 32 := constantI S_ 32 0#32
  let main_v14 : IVec S16 32 := broadcastInDim S16 ![] bcast_S_S16 main_c
  let main_v15 : IVec S16 1 := cmpi .sgt main_arg4 main_v14
  let main_v16 : IVec S16x128 1 := noti main_v5
  let main_c_1 : IVec S_ 32 := constantI S_ 32 0#32
  let main_v17 : IVec S16x128 32 := broadcastInDim S16x128 ![] bcast_S_S16x128 main_c_1
  let main_v18 : IVec S16x128 1 := cmpi .sge main_arg3 main_v17
  let main_c_2 : IVec S_ 32 := constantI S_ 32 4096#32
  fn_part1 (F := F) main_arg3 main_v9 main_v13 main_v15 main_v16 main_v18 main_c_2
-- ==== Kernel.lean ====
abbrev S16x1x16x64 : Shape := ⟨4, ![16, 1, 16, 64]⟩
abbrev S128x16x16x64 : Shape := ⟨4, ![128, 16, 16, 64]⟩
abbrev S16x128 : Shape := ⟨2, ![16, 128]⟩
abbrev S16 : Shape := ⟨1, ![16]⟩
abbrev S32x16x16x66 : Shape := ⟨4, ![32, 16, 16, 66]⟩
abbrev S32 : Shape := ⟨1, ![32]⟩
abbrev S_ : Shape := ⟨0, ![]⟩
abbrev S16x1 : Shape := ⟨2, ![16, 1]⟩
abbrev S128x16x128 : Shape := ⟨3, ![128, 16, 128]⟩
abbrev S1x16x128 : Shape := ⟨3, ![1, 16, 128]⟩
abbrev S128x16 : Shape := ⟨2, ![128, 16]⟩
abbrev S128x2048 : Shape := ⟨2, ![128, 2048]⟩
abbrev S16x2048 : Shape := ⟨2, ![16, 2048]⟩
abbrev S16x1x1x64 : Shape := ⟨4, ![16, 1, 1, 64]⟩
abbrev S16x64 : Shape := ⟨2, ![16, 64]⟩
abbrev S128x16x1x64 : Shape := ⟨4, ![128, 16, 1, 64]⟩
abbrev S128x16x64 : Shape := ⟨3, ![128, 16, 64]⟩
abbrev S2048x64 : Shape := ⟨2, ![2048, 64]⟩
abbrev S1x1x16x64 : Shape := ⟨4, ![1, 1, 16, 64]⟩
abbrev S1x1x16x1 : Shape := ⟨4, ![1, 1, 16, 1]⟩
abbrev S1 : Shape := ⟨1, ![1]⟩
abbrev S1x16x16x66 : Shape := ⟨4, ![1, 16, 16, 66]⟩
abbrev S16x16x66 : Shape := ⟨3, ![16, 16, 66]⟩
abbrev S32x1x16x1 : Shape := ⟨4, ![32, 1, 16, 1]⟩
abbrev S32x16x1 : Shape := ⟨3, ![32, 16, 1]⟩
abbrev S32x1x16x64 : Shape := ⟨4, ![32, 1, 16, 64]⟩
abbrev S32x16x64 : Shape := ⟨3, ![32, 16, 64]⟩
abbrev S1x16x1 : Shape := ⟨3, ![1, 16, 1]⟩

abbrev nBuf : Space → Nat
  | .hbm => 6
  | .vmem => 7
  | .smem => 0
  | _ => 0

abbrev bufTy : (tb : Table) → Fin (tcTables nBuf tb) → BufTy
  | .hbm, ⟨0, _⟩ => ⟨S16x1x16x64, .bf16⟩
  | .hbm, ⟨1, _⟩ => ⟨S128x16x16x64, .bf16⟩
  | .hbm, ⟨2, _⟩ => ⟨S128x16x16x64, .bf16⟩
  | .hbm, ⟨3, _⟩ => ⟨S16x128, .i32⟩
  | .hbm, ⟨4, _⟩ => ⟨S16, .i32⟩
  | .hbm, ⟨5, _⟩ => ⟨S16x1x16x64, .f32⟩
  | .local _ .vmem, ⟨0, _⟩ => ⟨S16x1x16x64, .bf16⟩
  | .local _ .vmem, ⟨1, _⟩ => ⟨S128x16x16x64, .bf16⟩
  | .local _ .vmem, ⟨2, _⟩ => ⟨S128x16x16x64, .bf16⟩
  | .local _ .vmem, ⟨3, _⟩ => ⟨S16x128, .i32⟩
  | .local _ .vmem, ⟨4, _⟩ => ⟨S16, .i32⟩
  | .local _ .vmem, ⟨5, _⟩ => ⟨S16x1x16x64, .f32⟩
  | .local _ .vmem, ⟨6, _⟩ => ⟨S32x16x16x66, .f32⟩
  | _, _ => ⟨S16x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v213 : Index := Scalar.indexCast v2
  let c0_156 : Index := 0#32
  let c0_157 : Index := 0#32
  let c0_158 : Index := 0#32
  ![v213.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v217 : Index := Scalar.indexCast v2
  let c0_159 : Index := 0#32
  let c0_160 : Index := 0#32
  let c64 : Index := 64#32
  ![v217.toNat, 0, 0, 64]
def k0_off3 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v221 : Index := Scalar.indexCast v2
  let c0_161 : Index := 0#32
  let c0_162 : Index := 0#32
  let c65 : Index := 65#32
  ![v221.toNat, 0, 0, 65]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v248 : Index := Scalar.indexCast v2
  let c1_180 : Index := 1#32
  let c0_181 : Index := 0#32
  let c0_182 : Index := 0#32
  ![v248.toNat, 1, 0, 0]
def k0_off5 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v252 : Index := Scalar.indexCast v2
  let c1_183 : Index := 1#32
  let c0_184 : Index := 0#32
  let c64_185 : Index := 64#32
  ![v252.toNat, 1, 0, 64]
def k0_off6 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v256 : Index := Scalar.indexCast v2
  let c1_186 : Index := 1#32
  let c0_187 : Index := 0#32
  let c65_188 : Index := 65#32
  ![v256.toNat, 1, 0, 65]
def k0_off7 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v283 : Index := Scalar.indexCast v2
  let c2_206 : Index := 2#32
  let c0_207 : Index := 0#32
  let c0_208 : Index := 0#32
  ![v283.toNat, 2, 0, 0]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v287 : Index := Scalar.indexCast v2
  let c2_209 : Index := 2#32
  let c0_210 : Index := 0#32
  let c64_211 : Index := 64#32
  ![v287.toNat, 2, 0, 64]
def k0_off9 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v291 : Index := Scalar.indexCast v2
  let c2_212 : Index := 2#32
  let c0_213 : Index := 0#32
  let c65_214 : Index := 65#32
  ![v291.toNat, 2, 0, 65]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v318 : Index := Scalar.indexCast v2
  let c3_232 : Index := 3#32
  let c0_233 : Index := 0#32
  let c0_234 : Index := 0#32
  ![v318.toNat, 3, 0, 0]
def k0_off11 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v322 : Index := Scalar.indexCast v2
  let c3_235 : Index := 3#32
  let c0_236 : Index := 0#32
  let c64_237 : Index := 64#32
  ![v322.toNat, 3, 0, 64]
def k0_off12 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v326 : Index := Scalar.indexCast v2
  let c3_238 : Index := 3#32
  let c0_239 : Index := 0#32
  let c65_240 : Index := 65#32
  ![v326.toNat, 3, 0, 65]
def k0_off13 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v353 : Index := Scalar.indexCast v2
  let c4_258 : Index := 4#32
  let c0_259 : Index := 0#32
  let c0_260 : Index := 0#32
  ![v353.toNat, 4, 0, 0]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v357 : Index := Scalar.indexCast v2
  let c4_261 : Index := 4#32
  let c0_262 : Index := 0#32
  let c64_263 : Index := 64#32
  ![v357.toNat, 4, 0, 64]
def k0_off15 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v361 : Index := Scalar.indexCast v2
  let c4_264 : Index := 4#32
  let c0_265 : Index := 0#32
  let c65_266 : Index := 65#32
  ![v361.toNat, 4, 0, 65]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v388 : Index := Scalar.indexCast v2
  let c5_284 : Index := 5#32
  let c0_285 : Index := 0#32
  let c0_286 : Index := 0#32
  ![v388.toNat, 5, 0, 0]
def k0_off17 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v392 : Index := Scalar.indexCast v2
  let c5_287 : Index := 5#32
  let c0_288 : Index := 0#32
  let c64_289 : Index := 64#32
  ![v392.toNat, 5, 0, 64]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v396 : Index := Scalar.indexCast v2
  let c5_290 : Index := 5#32
  let c0_291 : Index := 0#32
  let c65_292 : Index := 65#32
  ![v396.toNat, 5, 0, 65]
def k0_off19 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v423 : Index := Scalar.indexCast v2
  let c6_310 : Index := 6#32
  let c0_311 : Index := 0#32
  let c0_312 : Index := 0#32
  ![v423.toNat, 6, 0, 0]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v427 : Index := Scalar.indexCast v2
  let c6_313 : Index := 6#32
  let c0_314 : Index := 0#32
  let c64_315 : Index := 64#32
  ![v427.toNat, 6, 0, 64]
def k0_off21 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v431 : Index := Scalar.indexCast v2
  let c6_316 : Index := 6#32
  let c0_317 : Index := 0#32
  let c65_318 : Index := 65#32
  ![v431.toNat, 6, 0, 65]
def k0_off22 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v458 : Index := Scalar.indexCast v2
  let c7_336 : Index := 7#32
  let c0_337 : Index := 0#32
  let c0_338 : Index := 0#32
  ![v458.toNat, 7, 0, 0]
def k0_off23 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v462 : Index := Scalar.indexCast v2
  let c7_339 : Index := 7#32
  let c0_340 : Index := 0#32
  let c64_341 : Index := 64#32
  ![v462.toNat, 7, 0, 64]
def k0_off24 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v466 : Index := Scalar.indexCast v2
  let c7_342 : Index := 7#32
  let c0_343 : Index := 0#32
  let c65_344 : Index := 65#32
  ![v466.toNat, 7, 0, 65]
def k0_off25 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v493 : Index := Scalar.indexCast v2
  let c8_362 : Index := 8#32
  let c0_363 : Index := 0#32
  let c0_364 : Index := 0#32
  ![v493.toNat, 8, 0, 0]
def k0_off26 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v497 : Index := Scalar.indexCast v2
  let c8_365 : Index := 8#32
  let c0_366 : Index := 0#32
  let c64_367 : Index := 64#32
  ![v497.toNat, 8, 0, 64]
def k0_off27 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v501 : Index := Scalar.indexCast v2
  let c8_368 : Index := 8#32
  let c0_369 : Index := 0#32
  let c65_370 : Index := 65#32
  ![v501.toNat, 8, 0, 65]
def k0_off28 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v528 : Index := Scalar.indexCast v2
  let c9_388 : Index := 9#32
  let c0_389 : Index := 0#32
  let c0_390 : Index := 0#32
  ![v528.toNat, 9, 0, 0]
def k0_off29 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v532 : Index := Scalar.indexCast v2
  let c9_391 : Index := 9#32
  let c0_392 : Index := 0#32
  let c64_393 : Index := 64#32
  ![v532.toNat, 9, 0, 64]
def k0_off30 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v536 : Index := Scalar.indexCast v2
  let c9_394 : Index := 9#32
  let c0_395 : Index := 0#32
  let c65_396 : Index := 65#32
  ![v536.toNat, 9, 0, 65]
def k0_off31 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v563 : Index := Scalar.indexCast v2
  let c10_414 : Index := 10#32
  let c0_415 : Index := 0#32
  let c0_416 : Index := 0#32
  ![v563.toNat, 10, 0, 0]
def k0_off32 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v567 : Index := Scalar.indexCast v2
  let c10_417 : Index := 10#32
  let c0_418 : Index := 0#32
  let c64_419 : Index := 64#32
  ![v567.toNat, 10, 0, 64]
def k0_off33 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v571 : Index := Scalar.indexCast v2
  let c10_420 : Index := 10#32
  let c0_421 : Index := 0#32
  let c65_422 : Index := 65#32
  ![v571.toNat, 10, 0, 65]
def k0_off34 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v598 : Index := Scalar.indexCast v2
  let c11_440 : Index := 11#32
  let c0_441 : Index := 0#32
  let c0_442 : Index := 0#32
  ![v598.toNat, 11, 0, 0]
def k0_off35 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v602 : Index := Scalar.indexCast v2
  let c11_443 : Index := 11#32
  let c0_444 : Index := 0#32
  let c64_445 : Index := 64#32
  ![v602.toNat, 11, 0, 64]
def k0_off36 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v606 : Index := Scalar.indexCast v2
  let c11_446 : Index := 11#32
  let c0_447 : Index := 0#32
  let c65_448 : Index := 65#32
  ![v606.toNat, 11, 0, 65]
def k0_off37 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v633 : Index := Scalar.indexCast v2
  let c12_466 : Index := 12#32
  let c0_467 : Index := 0#32
  let c0_468 : Index := 0#32
  ![v633.toNat, 12, 0, 0]
def k0_off38 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v637 : Index := Scalar.indexCast v2
  let c12_469 : Index := 12#32
  let c0_470 : Index := 0#32
  let c64_471 : Index := 64#32
  ![v637.toNat, 12, 0, 64]
def k0_off39 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v641 : Index := Scalar.indexCast v2
  let c12_472 : Index := 12#32
  let c0_473 : Index := 0#32
  let c65_474 : Index := 65#32
  ![v641.toNat, 12, 0, 65]
def k0_off40 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v668 : Index := Scalar.indexCast v2
  let c13_492 : Index := 13#32
  let c0_493 : Index := 0#32
  let c0_494 : Index := 0#32
  ![v668.toNat, 13, 0, 0]
def k0_off41 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v672 : Index := Scalar.indexCast v2
  let c13_495 : Index := 13#32
  let c0_496 : Index := 0#32
  let c64_497 : Index := 64#32
  ![v672.toNat, 13, 0, 64]
def k0_off42 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v676 : Index := Scalar.indexCast v2
  let c13_498 : Index := 13#32
  let c0_499 : Index := 0#32
  let c65_500 : Index := 65#32
  ![v676.toNat, 13, 0, 65]
def k0_off43 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v703 : Index := Scalar.indexCast v2
  let c14_518 : Index := 14#32
  let c0_519 : Index := 0#32
  let c0_520 : Index := 0#32
  ![v703.toNat, 14, 0, 0]
def k0_off44 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v707 : Index := Scalar.indexCast v2
  let c14_521 : Index := 14#32
  let c0_522 : Index := 0#32
  let c64_523 : Index := 64#32
  ![v707.toNat, 14, 0, 64]
def k0_off45 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v711 : Index := Scalar.indexCast v2
  let c14_524 : Index := 14#32
  let c0_525 : Index := 0#32
  let c65_526 : Index := 65#32
  ![v711.toNat, 14, 0, 65]
def k0_off46 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v738 : Index := Scalar.indexCast v2
  let c15_544 : Index := 15#32
  let c0_545 : Index := 0#32
  let c0_546 : Index := 0#32
  ![v738.toNat, 15, 0, 0]
def k0_off47 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v742 : Index := Scalar.indexCast v2
  let c15_547 : Index := 15#32
  let c0_548 : Index := 0#32
  let c64_549 : Index := 64#32
  ![v742.toNat, 15, 0, 64]
def k0_off48 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v746 : Index := Scalar.indexCast v2
  let c15_550 : Index := 15#32
  let c0_551 : Index := 0#32
  let c65_552 : Index := 65#32
  ![v746.toNat, 15, 0, 65]
def k0_off49 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_559 : BitVec 32 := 0#32
  let c0_i32_560 : BitVec 32 := 0#32
  let c0_i32_561 : BitVec 32 := 0#32
  ![v2.toNat, 0, 0, 0]
def k0_dev32 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_553 : BitVec 32 := 1#32
  let v750 : BitVec 32 := Scalar.addi v2 c1_i32_553
  let c32_i32_554 : BitVec 32 := 32#32
  let v751 : BitVec 32 := Scalar.remsi v750 c32_i32_554
  let c1_i32_557 : BitVec 32 := 1#32
  let v752 : BitVec 32 := Scalar.muli v751 c1_i32_557
  let v753 : BitVec 32 := Scalar.addi c0_i32_558 v752
  v753.toNat
def k0_dev33 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_565 : BitVec 32 := 2#32
  let v762 : BitVec 32 := Scalar.addi v2 c2_i32_565
  let c32_i32_566 : BitVec 32 := 32#32
  let v763 : BitVec 32 := Scalar.remsi v762 c32_i32_566
  let c1_i32_569 : BitVec 32 := 1#32
  let v764 : BitVec 32 := Scalar.muli v763 c1_i32_569
  let v765 : BitVec 32 := Scalar.addi c0_i32_570 v764
  v765.toNat
def k0_dev34 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_577 : BitVec 32 := 3#32
  let v774 : BitVec 32 := Scalar.addi v2 c3_i32_577
  let c32_i32_578 : BitVec 32 := 32#32
  let v775 : BitVec 32 := Scalar.remsi v774 c32_i32_578
  let c1_i32_581 : BitVec 32 := 1#32
  let v776 : BitVec 32 := Scalar.muli v775 c1_i32_581
  let v777 : BitVec 32 := Scalar.addi c0_i32_582 v776
  v777.toNat
def k0_dev35 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_589 : BitVec 32 := 4#32
  let v786 : BitVec 32 := Scalar.addi v2 c4_i32_589
  let c32_i32_590 : BitVec 32 := 32#32
  let v787 : BitVec 32 := Scalar.remsi v786 c32_i32_590
  let c1_i32_593 : BitVec 32 := 1#32
  let v788 : BitVec 32 := Scalar.muli v787 c1_i32_593
  let v789 : BitVec 32 := Scalar.addi c0_i32_594 v788
  v789.toNat
def k0_dev36 (d0 : Dev nD) : Nat :=
  let c0_i32_606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_601 : BitVec 32 := 5#32
  let v798 : BitVec 32 := Scalar.addi v2 c5_i32_601
  let c32_i32_602 : BitVec 32 := 32#32
  let v799 : BitVec 32 := Scalar.remsi v798 c32_i32_602
  let c1_i32_605 : BitVec 32 := 1#32
  let v800 : BitVec 32 := Scalar.muli v799 c1_i32_605
  let v801 : BitVec 32 := Scalar.addi c0_i32_606 v800
  v801.toNat
def k0_dev37 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_613 : BitVec 32 := 6#32
  let v810 : BitVec 32 := Scalar.addi v2 c6_i32_613
  let c32_i32_614 : BitVec 32 := 32#32
  let v811 : BitVec 32 := Scalar.remsi v810 c32_i32_614
  let c1_i32_617 : BitVec 32 := 1#32
  let v812 : BitVec 32 := Scalar.muli v811 c1_i32_617
  let v813 : BitVec 32 := Scalar.addi c0_i32_618 v812
  v813.toNat
def k0_dev38 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_625 : BitVec 32 := 7#32
  let v822 : BitVec 32 := Scalar.addi v2 c7_i32_625
  let c32_i32_626 : BitVec 32 := 32#32
  let v823 : BitVec 32 := Scalar.remsi v822 c32_i32_626
  let c1_i32_629 : BitVec 32 := 1#32
  let v824 : BitVec 32 := Scalar.muli v823 c1_i32_629
  let v825 : BitVec 32 := Scalar.addi c0_i32_630 v824
  v825.toNat
def k0_dev39 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_637 : BitVec 32 := 8#32
  let v834 : BitVec 32 := Scalar.addi v2 c8_i32_637
  let c32_i32_638 : BitVec 32 := 32#32
  let v835 : BitVec 32 := Scalar.remsi v834 c32_i32_638
  let c1_i32_641 : BitVec 32 := 1#32
  let v836 : BitVec 32 := Scalar.muli v835 c1_i32_641
  let v837 : BitVec 32 := Scalar.addi c0_i32_642 v836
  v837.toNat
def k0_dev40 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_649 : BitVec 32 := 9#32
  let v846 : BitVec 32 := Scalar.addi v2 c9_i32_649
  let c32_i32_650 : BitVec 32 := 32#32
  let v847 : BitVec 32 := Scalar.remsi v846 c32_i32_650
  let c1_i32_653 : BitVec 32 := 1#32
  let v848 : BitVec 32 := Scalar.muli v847 c1_i32_653
  let v849 : BitVec 32 := Scalar.addi c0_i32_654 v848
  v849.toNat
def k0_dev41 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_661 : BitVec 32 := 10#32
  let v858 : BitVec 32 := Scalar.addi v2 c10_i32_661
  let c32_i32_662 : BitVec 32 := 32#32
  let v859 : BitVec 32 := Scalar.remsi v858 c32_i32_662
  let c1_i32_665 : BitVec 32 := 1#32
  let v860 : BitVec 32 := Scalar.muli v859 c1_i32_665
  let v861 : BitVec 32 := Scalar.addi c0_i32_666 v860
  v861.toNat
def k0_dev42 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_673 : BitVec 32 := 11#32
  let v870 : BitVec 32 := Scalar.addi v2 c11_i32_673
  let c32_i32_674 : BitVec 32 := 32#32
  let v871 : BitVec 32 := Scalar.remsi v870 c32_i32_674
  let c1_i32_677 : BitVec 32 := 1#32
  let v872 : BitVec 32 := Scalar.muli v871 c1_i32_677
  let v873 : BitVec 32 := Scalar.addi c0_i32_678 v872
  v873.toNat
def k0_dev43 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_685 : BitVec 32 := 12#32
  let v882 : BitVec 32 := Scalar.addi v2 c12_i32_685
  let c32_i32_686 : BitVec 32 := 32#32
  let v883 : BitVec 32 := Scalar.remsi v882 c32_i32_686
  let c1_i32_689 : BitVec 32 := 1#32
  let v884 : BitVec 32 := Scalar.muli v883 c1_i32_689
  let v885 : BitVec 32 := Scalar.addi c0_i32_690 v884
  v885.toNat
def k0_dev44 (d0 : Dev nD) : Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_697 : BitVec 32 := 13#32
  let v894 : BitVec 32 := Scalar.addi v2 c13_i32_697
  let c32_i32_698 : BitVec 32 := 32#32
  let v895 : BitVec 32 := Scalar.remsi v894 c32_i32_698
  let c1_i32_701 : BitVec 32 := 1#32
  let v896 : BitVec 32 := Scalar.muli v895 c1_i32_701
  let v897 : BitVec 32 := Scalar.addi c0_i32_702 v896
  v897.toNat
def k0_dev45 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_709 : BitVec 32 := 14#32
  let v906 : BitVec 32 := Scalar.addi v2 c14_i32_709
  let c32_i32_710 : BitVec 32 := 32#32
  let v907 : BitVec 32 := Scalar.remsi v906 c32_i32_710
  let c1_i32_713 : BitVec 32 := 1#32
  let v908 : BitVec 32 := Scalar.muli v907 c1_i32_713
  let v909 : BitVec 32 := Scalar.addi c0_i32_714 v908
  v909.toNat
def k0_dev46 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_721 : BitVec 32 := 15#32
  let v918 : BitVec 32 := Scalar.addi v2 c15_i32_721
  let c32_i32_722 : BitVec 32 := 32#32
  let v919 : BitVec 32 := Scalar.remsi v918 c32_i32_722
  let c1_i32_725 : BitVec 32 := 1#32
  let v920 : BitVec 32 := Scalar.muli v919 c1_i32_725
  let v921 : BitVec 32 := Scalar.addi c0_i32_726 v920
  v921.toNat
def k0_dev47 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_733 : BitVec 32 := 16#32
  let v930 : BitVec 32 := Scalar.addi v2 c16_i32_733
  let c32_i32_734 : BitVec 32 := 32#32
  let v931 : BitVec 32 := Scalar.remsi v930 c32_i32_734
  let c1_i32_737 : BitVec 32 := 1#32
  let v932 : BitVec 32 := Scalar.muli v931 c1_i32_737
  let v933 : BitVec 32 := Scalar.addi c0_i32_738 v932
  v933.toNat
def k0_dev48 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_745 : BitVec 32 := 17#32
  let v942 : BitVec 32 := Scalar.addi v2 c17_i32_745
  let c32_i32_746 : BitVec 32 := 32#32
  let v943 : BitVec 32 := Scalar.remsi v942 c32_i32_746
  let c1_i32_749 : BitVec 32 := 1#32
  let v944 : BitVec 32 := Scalar.muli v943 c1_i32_749
  let v945 : BitVec 32 := Scalar.addi c0_i32_750 v944
  v945.toNat
def k0_dev49 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_757 : BitVec 32 := 18#32
  let v954 : BitVec 32 := Scalar.addi v2 c18_i32_757
  let c32_i32_758 : BitVec 32 := 32#32
  let v955 : BitVec 32 := Scalar.remsi v954 c32_i32_758
  let c1_i32_761 : BitVec 32 := 1#32
  let v956 : BitVec 32 := Scalar.muli v955 c1_i32_761
  let v957 : BitVec 32 := Scalar.addi c0_i32_762 v956
  v957.toNat
def k0_dev50 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_769 : BitVec 32 := 19#32
  let v966 : BitVec 32 := Scalar.addi v2 c19_i32_769
  let c32_i32_770 : BitVec 32 := 32#32
  let v967 : BitVec 32 := Scalar.remsi v966 c32_i32_770
  let c1_i32_773 : BitVec 32 := 1#32
  let v968 : BitVec 32 := Scalar.muli v967 c1_i32_773
  let v969 : BitVec 32 := Scalar.addi c0_i32_774 v968
  v969.toNat
def k0_dev51 (d0 : Dev nD) : Nat :=
  let c0_i32_786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_781 : BitVec 32 := 20#32
  let v978 : BitVec 32 := Scalar.addi v2 c20_i32_781
  let c32_i32_782 : BitVec 32 := 32#32
  let v979 : BitVec 32 := Scalar.remsi v978 c32_i32_782
  let c1_i32_785 : BitVec 32 := 1#32
  let v980 : BitVec 32 := Scalar.muli v979 c1_i32_785
  let v981 : BitVec 32 := Scalar.addi c0_i32_786 v980
  v981.toNat
def k0_dev52 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_793 : BitVec 32 := 21#32
  let v990 : BitVec 32 := Scalar.addi v2 c21_i32_793
  let c32_i32_794 : BitVec 32 := 32#32
  let v991 : BitVec 32 := Scalar.remsi v990 c32_i32_794
  let c1_i32_797 : BitVec 32 := 1#32
  let v992 : BitVec 32 := Scalar.muli v991 c1_i32_797
  let v993 : BitVec 32 := Scalar.addi c0_i32_798 v992
  v993.toNat
def k0_dev53 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_805 : BitVec 32 := 22#32
  let v1002 : BitVec 32 := Scalar.addi v2 c22_i32_805
  let c32_i32_806 : BitVec 32 := 32#32
  let v1003 : BitVec 32 := Scalar.remsi v1002 c32_i32_806
  let c1_i32_809 : BitVec 32 := 1#32
  let v1004 : BitVec 32 := Scalar.muli v1003 c1_i32_809
  let v1005 : BitVec 32 := Scalar.addi c0_i32_810 v1004
  v1005.toNat
def k0_dev54 (d0 : Dev nD) : Nat :=
  let c0_i32_822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_817 : BitVec 32 := 23#32
  let v1014 : BitVec 32 := Scalar.addi v2 c23_i32_817
  let c32_i32_818 : BitVec 32 := 32#32
  let v1015 : BitVec 32 := Scalar.remsi v1014 c32_i32_818
  let c1_i32_821 : BitVec 32 := 1#32
  let v1016 : BitVec 32 := Scalar.muli v1015 c1_i32_821
  let v1017 : BitVec 32 := Scalar.addi c0_i32_822 v1016
  v1017.toNat
def k0_dev55 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_829 : BitVec 32 := 24#32
  let v1026 : BitVec 32 := Scalar.addi v2 c24_i32_829
  let c32_i32_830 : BitVec 32 := 32#32
  let v1027 : BitVec 32 := Scalar.remsi v1026 c32_i32_830
  let c1_i32_833 : BitVec 32 := 1#32
  let v1028 : BitVec 32 := Scalar.muli v1027 c1_i32_833
  let v1029 : BitVec 32 := Scalar.addi c0_i32_834 v1028
  v1029.toNat
def k0_dev56 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_841 : BitVec 32 := 25#32
  let v1038 : BitVec 32 := Scalar.addi v2 c25_i32_841
  let c32_i32_842 : BitVec 32 := 32#32
  let v1039 : BitVec 32 := Scalar.remsi v1038 c32_i32_842
  let c1_i32_845 : BitVec 32 := 1#32
  let v1040 : BitVec 32 := Scalar.muli v1039 c1_i32_845
  let v1041 : BitVec 32 := Scalar.addi c0_i32_846 v1040
  v1041.toNat
def k0_dev57 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_853 : BitVec 32 := 26#32
  let v1050 : BitVec 32 := Scalar.addi v2 c26_i32_853
  let c32_i32_854 : BitVec 32 := 32#32
  let v1051 : BitVec 32 := Scalar.remsi v1050 c32_i32_854
  let c1_i32_857 : BitVec 32 := 1#32
  let v1052 : BitVec 32 := Scalar.muli v1051 c1_i32_857
  let v1053 : BitVec 32 := Scalar.addi c0_i32_858 v1052
  v1053.toNat
def k0_dev58 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_865 : BitVec 32 := 27#32
  let v1062 : BitVec 32 := Scalar.addi v2 c27_i32_865
  let c32_i32_866 : BitVec 32 := 32#32
  let v1063 : BitVec 32 := Scalar.remsi v1062 c32_i32_866
  let c1_i32_869 : BitVec 32 := 1#32
  let v1064 : BitVec 32 := Scalar.muli v1063 c1_i32_869
  let v1065 : BitVec 32 := Scalar.addi c0_i32_870 v1064
  v1065.toNat
def k0_dev59 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_877 : BitVec 32 := 28#32
  let v1074 : BitVec 32 := Scalar.addi v2 c28_i32_877
  let c32_i32_878 : BitVec 32 := 32#32
  let v1075 : BitVec 32 := Scalar.remsi v1074 c32_i32_878
  let c1_i32_881 : BitVec 32 := 1#32
  let v1076 : BitVec 32 := Scalar.muli v1075 c1_i32_881
  let v1077 : BitVec 32 := Scalar.addi c0_i32_882 v1076
  v1077.toNat
def k0_dev60 (d0 : Dev nD) : Nat :=
  let c0_i32_894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_889 : BitVec 32 := 29#32
  let v1086 : BitVec 32 := Scalar.addi v2 c29_i32_889
  let c32_i32_890 : BitVec 32 := 32#32
  let v1087 : BitVec 32 := Scalar.remsi v1086 c32_i32_890
  let c1_i32_893 : BitVec 32 := 1#32
  let v1088 : BitVec 32 := Scalar.muli v1087 c1_i32_893
  let v1089 : BitVec 32 := Scalar.addi c0_i32_894 v1088
  v1089.toNat
def k0_dev61 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_901 : BitVec 32 := 30#32
  let v1098 : BitVec 32 := Scalar.addi v2 c30_i32_901
  let c32_i32_902 : BitVec 32 := 32#32
  let v1099 : BitVec 32 := Scalar.remsi v1098 c32_i32_902
  let c1_i32_905 : BitVec 32 := 1#32
  let v1100 : BitVec 32 := Scalar.muli v1099 c1_i32_905
  let v1101 : BitVec 32 := Scalar.addi c0_i32_906 v1100
  v1101.toNat
def k0_dev62 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_913 : BitVec 32 := 31#32
  let v1110 : BitVec 32 := Scalar.addi v2 c31_i32_913
  let c32_i32_914 : BitVec 32 := 32#32
  let v1111 : BitVec 32 := Scalar.remsi v1110 c32_i32_914
  let c1_i32_917 : BitVec 32 := 1#32
  let v1112 : BitVec 32 := Scalar.muli v1111 c1_i32_917
  let v1113 : BitVec 32 := Scalar.addi c0_i32_918 v1112
  v1113.toNat
def k0_off50 (d0 : Dev nD) (c1_i32_927 : BitVec 32) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1124 : BitVec 32 := Scalar.subi v2 c1_i32_927
  let c32_i32_928 : BitVec 32 := 32#32
  let v1125 : BitVec 32 := Scalar.addi v1124 c32_i32_928
  let c32_i32_929 : BitVec 32 := 32#32
  let v1126 : BitVec 32 := Scalar.remsi v1125 c32_i32_929
  let c0_i32_943 : BitVec 32 := 0#32
  let c0_i32_944 : BitVec 32 := 0#32
  let c0_i32_945 : BitVec 32 := 0#32
  ![v1126.toNat, 0, 0, 0]
abbrev stage0_0 : Fin 1 → Memref sig .tc .vmem S16x1x16x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16x16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x16x16x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x1x16x64 : Shape := ⟨4, ![16, 1, 16, 64]⟩
abbrev S4096x16x16x64 : Shape := ⟨4, ![4096, 16, 16, 64]⟩
abbrev S16x128 : Shape := ⟨2, ![16, 128]⟩
abbrev S16 : Shape := ⟨1, ![16]⟩
abbrev S_ : Shape := ⟨0, ![]⟩
abbrev S16x128x1 : Shape := ⟨3, ![16, 128, 1]⟩
abbrev S16x128x16x16x64 : Shape := ⟨5, ![16, 128, 16, 16, 64]⟩
abbrev S128 : Shape := ⟨1, ![128]⟩
abbrev S1x128 : Shape := ⟨2, ![1, 128]⟩
abbrev S16x1 : Shape := ⟨2, ![16, 1]⟩
abbrev S16x16x1x128x16 : Shape := ⟨5, ![16, 16, 1, 128, 16]⟩
abbrev S16x1x1x128x1 : Shape := ⟨5, ![16, 1, 1, 128, 1]⟩
abbrev S16x16x1 : Shape := ⟨3, ![16, 16, 1]⟩
abbrev S16x16x1x1x1 : Shape := ⟨5, ![16, 16, 1, 1, 1]⟩
abbrev S16x16x64x1 : Shape := ⟨4, ![16, 16, 64, 1]⟩

abbrev nBuf : Space → Nat
  | .hbm => 55
  | .vmem => 0
  | .smem => 0
  | _ => 0

abbrev bufTy : (tb : Table) → Fin (tcTables nBuf tb) → BufTy
  | .hbm, ⟨0, _⟩ => ⟨S16x1x16x64, .bf16⟩
  | .hbm, ⟨1, _⟩ => ⟨S4096x16x16x64, .bf16⟩
  | .hbm, ⟨2, _⟩ => ⟨S4096x16x16x64, .bf16⟩
  | .hbm, ⟨3, _⟩ => ⟨S16x128, .i32⟩
  | .hbm, ⟨4, _⟩ => ⟨S16, .i32⟩
  | .hbm, ⟨5, _⟩ => ⟨S16x1x16x64, .f32⟩
  | .hbm, ⟨6, _⟩ => ⟨S4096x16x16x64, .f32⟩
  | .hbm, ⟨7, _⟩ => ⟨S4096x16x16x64, .f32⟩
  | .hbm, ⟨8, _⟩ => ⟨S_, .i32⟩
  | .hbm, ⟨9, _⟩ => ⟨S16x128, .i32⟩
  | .hbm, ⟨10, _⟩ => ⟨S16x128, .i1⟩
  | .hbm, ⟨11, _⟩ => ⟨S_, .i32⟩
  | .hbm, ⟨12, _⟩ => ⟨S16x128, .i32⟩
  | .hbm, ⟨13, _⟩ => ⟨S16x128, .i32⟩
  | .hbm, ⟨14, _⟩ => ⟨S16x128, .i32⟩
  | .hbm, ⟨15, _⟩ => ⟨S16x128x1, .i32⟩
  | .hbm, ⟨16, _⟩ => ⟨S16x128x16x16x64, .f32⟩
  | .hbm, ⟨17, _⟩ => ⟨S_, .i32⟩
  | .hbm, ⟨18, _⟩ => ⟨S16x128, .i32⟩
  | .hbm, ⟨19, _⟩ => ⟨S16x128, .i1⟩
  | .hbm, ⟨20, _⟩ => ⟨S_, .i32⟩
  | .hbm, ⟨21, _⟩ => ⟨S16x128, .i32⟩
  | .hbm, ⟨22, _⟩ => ⟨S16x128, .i32⟩
  | .hbm, ⟨23, _⟩ => ⟨S16x128, .i32⟩
  | .hbm, ⟨24, _⟩ => ⟨S16x128x1, .i32⟩
  | .hbm, ⟨25, _⟩ => ⟨S16x128x16x16x64, .f32⟩
  | .hbm, ⟨26, _⟩ => ⟨S128, .i32⟩
  | .hbm, ⟨27, _⟩ => ⟨S1x128, .i32⟩
  | .hbm, ⟨28, _⟩ => ⟨S16x1, .i32⟩
  | .hbm, ⟨29, _⟩ => ⟨S16x128, .i32⟩
  | .hbm, ⟨30, _⟩ => ⟨S16x128, .i32⟩
  | .hbm, ⟨31, _⟩ => ⟨S16x128, .i1⟩
  | .hbm, ⟨32, _⟩ => ⟨S16x16x1x128x16, .f32⟩
  | .hbm, ⟨33, _⟩ => ⟨S_, .f32⟩
  | .hbm, ⟨34, _⟩ => ⟨S16x16x1x128x16, .f32⟩
  | .hbm, ⟨35, _⟩ => ⟨S16x16x1x128x16, .f32⟩
  | .hbm, ⟨36, _⟩ => ⟨S16x1x1x128x1, .i1⟩
  | .hbm, ⟨37, _⟩ => ⟨S_, .f32⟩
  | .hbm, ⟨38, _⟩ => ⟨S_, .f32⟩
  | .hbm, ⟨39, _⟩ => ⟨S16x16x1x128x16, .i1⟩
  | .hbm, ⟨40, _⟩ => ⟨S16x16x1x128x16, .f32⟩
  | .hbm, ⟨41, _⟩ => ⟨S16x16x1x128x16, .f32⟩
  | .hbm, ⟨42, _⟩ => ⟨S_, .f32⟩
  | .hbm, ⟨43, _⟩ => ⟨S16x16x1, .f32⟩
  | .hbm, ⟨44, _⟩ => ⟨S16x16x1x1x1, .f32⟩
  | .hbm, ⟨45, _⟩ => ⟨S16x16x1x128x16, .f32⟩
  | .hbm, ⟨46, _⟩ => ⟨S16x16x1x128x16, .f32⟩
  | .hbm, ⟨47, _⟩ => ⟨S16x16x1x128x16, .f32⟩
  | .hbm, ⟨48, _⟩ => ⟨S_, .f32⟩
  | .hbm, ⟨49, _⟩ => ⟨S16x16x1, .f32⟩
  | .hbm, ⟨50, _⟩ => ⟨S16x16x1x1x1, .f32⟩
  | .hbm, ⟨51, _⟩ => ⟨S16x16x1x128x16, .f32⟩
  | .hbm, ⟨52, _⟩ => ⟨S16x16x1x128x16, .f32⟩
  | .hbm, ⟨53, _⟩ => ⟨S16x16x64x1, .f32⟩
  | .hbm, ⟨54, _⟩ => ⟨S16x1x16x64, .f32⟩
  | _, _ => ⟨S16x1x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Shape.lean ====
/- The kernel body as loops: what the printed body does statement by statement, written once per loop.
   `body_eq` says the two are the same program. -/
module

public import proofs.«01_k».proof.Proof.Gen.KernelIdeal.Skeleton
public import Idealize.ShloMosaic.Lib.Pipeline.Regions
public import Idealize.ShloMosaic.Lib.Tactic

@[expose] public section

set_option synthInstance.maxSize 4096

noncomputable section

namespace Cert.KernelIdeal.Pf

open Idealize.ShloMosaic Idealize.SL.Sem Cert.KernelIdeal.Gen

variable {F : FTy → Type} [FloatOps F]

/-- A program of one TensorCore. -/
abbrev Pg (F : FTy → Type) (α : Type) := Prog (TpuEff nD τ sig (Elt F) Λ₀ .tc) α

/-- The last `n` of the `N` turns of a loop, in order. -/
def turns {N : Nat} (f : Fin N → Pg F PUnit) : (n : Nat) → n ≤ N → Pg F PUnit
  | 0, _ => .ret ⟨⟩
  | n + 1, h => (f ⟨N - (n + 1), Nat.sub_lt (Nat.lt_of_lt_of_le (Nat.succ_pos n) h) (Nat.succ_pos n)⟩).bind
      fun _ => turns f n (Nat.le_of_succ_le h)

/-- Every turn of a loop, in order. -/
def loop {N : Nat} (f : Fin N → Pg F PUnit) : Pg F PUnit := turns f N (Nat.le_refl N)

/-- The row of the mesh position, as the kernel computes it. -/
def posw (d0 : Dev nD) : BitVec 32 := Scalar.remsi (Scalar.divsi (Dev.word d0) 1#32) 32#32

/-- The device `w` places after `d0` on the ring, as the kernel computes it. -/
def kdev (d0 : Dev nD) (w : BitVec 32) : Nat :=
  (Scalar.addi 0#32 (Scalar.muli (Scalar.remsi (Scalar.addi (posw d0) w) 32#32) 1#32)).toNat

theorem kdev_eq : ∀ (d0 : Dev nD) (i : Fin 31), kdev d0 (BitVec.ofNat 32 (1 + i.val)) = (d0.val + (1 + i.val)) % 32 := by
  decide +kernel

theorem kdev_lt (d0 : Dev nD) (i : Fin 31) : kdev d0 (BitVec.ofNat 32 (1 + i.val)) < nD := by
  rw [kdev_eq]; exact Nat.mod_lt _ (by decide)

/-- Where head `h` of this device's row of the scratch begins, at lane `l`. -/
def offH (d0 : Dev nD) (h l : Nat) : Fin 4 → Nat := ![(posw d0).toNat, h, 0, l]

theorem posw_eq : ∀ d0 : Dev nD, (posw d0).toNat = d0.val := by decide +kernel

theorem offH_eq (d0 : Dev nD) (h l : Nat) : offH d0 h l = ![d0.val, h, 0, l] := by rw [offH, posw_eq]

theorem inb_o (d0 : Dev nD) (h : Fin 16) : ∀ i, offH d0 h.val 0 i + S1x1x16x64.size i ≤ S32x16x16x66.size i := by
  have := d0.isLt; have := h.isLt
  rw [offH_eq]; intro i; fin_cases i <;> simp [S1x1x16x64, S32x16x16x66, nD] at * <;> omega
theorem inb_m (d0 : Dev nD) (h : Fin 16) : ∀ i, offH d0 h.val 64 i + S1x1x16x1.size i ≤ S32x16x16x66.size i := by
  have := d0.isLt; have := h.isLt
  rw [offH_eq]; intro i; fin_cases i <;> simp [S1x1x16x1, S32x16x16x66, nD] at * <;> omega
theorem inb_l (d0 : Dev nD) (h : Fin 16) : ∀ i, offH d0 h.val 65 i + S1x1x16x1.size i ≤ S32x16x16x66.size i := by
  have := d0.isLt; have := h.isLt
  rw [offH_eq]; intro i; fin_cases i <;> simp [S1x1x16x1, S32x16x16x66, nD] at * <;> omega
theorem inb_q (h : Fin 16) : ∀ i, (![0, 0, h.val, 0] : Fin 4 → Nat) i + S16x1x1x64.size i ≤ S16x1x16x64.size i := by
  have := h.isLt
  intro i; fin_cases i <;> simp [S16x1x1x64, S16x1x16x64] <;> omega
theorem inb_k (h : Fin 16) : ∀ i, (![0, 0, h.val, 0] : Fin 4 → Nat) i + S128x16x1x64.size i ≤ S128x16x16x64.size i := by
  have := h.isLt
  intro i; fin_cases i <;> simp [S128x16x1x64, S128x16x16x64] <;> omega
theorem inb_go (h : Fin 16) : ∀ i, (![0, h.val, 0, 0] : Fin 4 → Nat) i + S32x1x16x64.size i ≤ S32x16x16x66.size i := by
  have := h.isLt
  intro i; fin_cases i <;> simp [S32x1x16x64, S32x16x16x66] <;> omega
theorem inb_gm (h : Fin 16) : ∀ i, (![0, h.val, 0, 64] : Fin 4 → Nat) i + S32x1x16x1.size i ≤ S32x16x16x66.size i := by
  have := h.isLt
  intro i; fin_cases i <;> simp [S32x1x16x1, S32x16x16x66] <;> omega
theorem inb_gl (h : Fin 16) : ∀ i, (![0, h.val, 0, 65] : Fin 4 → Nat) i + S32x1x16x1.size i ≤ S32x16x16x66.size i := by
  have := h.isLt
  intro i; fin_cases i <;> simp [S32x1x16x1, S32x16x16x66] <;> omega
theorem inb_s (i : Fin 31) : ∀ k, (![1 + i.val] : Fin 1 → Nat) k + S1.size k ≤ S32.size k := by
  have := i.isLt
  intro k; fin_cases k; simp [S1, S32]; omega

/-- This device's row of the scratch, as the copies name it. -/
abbrev mine (a6 : Memref sig .tc .vmem S32x16x16x66 .f32) (d0 : Dev nD) : Memref sig .tc .vmem S16x16x66 .f32 :=
  (a6.slice (Rect.unit (s := S32x16x16x66) (k0_off49 d0) S1x16x16x66.size (k0_off49_inb d0)) (fun _ => rfl)).squeeze
    S16x16x66 squeezes_S1x16x16x66_S16x16x66

/-- The row the `i`-th wait names: that of the device `1 + i` places before this one. -/
abbrev theirs (a6 : Memref sig .tc .vmem S32x16x16x66 .f32) (d0 : Dev nD) (i : Fin 31) : Memref sig .tc .vmem S16x16x66 .f32 :=
  (a6.slice (Rect.unit (s := S32x16x16x66) (k0_off50 d0 (BitVec.ofNat 32 (1 + i.val))) S1x16x16x66.size (k0_off50_inb d0 i))
    (fun _ => rfl)).squeeze S16x16x66 squeezes_S1x16x16x66_S16x16x66

/-- Semaphore `1 + i` of an array of 32. -/
abbrev semAt (a : DmaSems sig S32) (i : Fin 31) : DmaSem sig :=
  ((a.slice (Rect.unit (s := S32) ![1 + i.val] S1.size (inb_s i))).squeeze S_ squeezes_S1_S_).sem

/-- The barrier's semaphore. -/
abbrev barS : Sems sig S_ := SemArray.scalar (sig.barrier 0 rfl)

/-- One signal of the barrier: to the device `1 + i` places after this one. -/
def sigT (d0 : Dev nD) (i : Fin 31) : Pg F PUnit :=
  semSignalWord (⟨kdev d0 (BitVec.ofNat 32 (1 + i.val)), kdev_lt d0 i⟩ : Dev nD) barS.sem 1#32

/-- The partial sums of one head, written into this device's row. -/
def headT (a0 : Memref sig .tc .vmem S16x1x16x64 .bf16) (a1 a2 : Memref sig .tc .vmem S128x16x16x64 .bf16)
    (a6 : Memref sig .tc .vmem S32x16x16x66 .f32) (d0 : Dev nD) (w : FVec F S16x2048 .f32) (wp : IVec S16x2048 1)
    (h : Fin 16) : Pg F PUnit := do
  let q : Vec F S16x1x1x64 .bf16 ← Prog.lift (.load a0 (Rect.unit (s := S16x1x16x64) ![0, 0, h.val, 0] S16x1x1x64.size (inb_q h)).toLoadRect (View.loadsAt_vmem h_S16x1x1x64))
  let k : Vec F S128x16x1x64 .bf16 ← Prog.lift (.load a1 (Rect.unit (s := S128x16x16x64) ![0, 0, h.val, 0] S128x16x1x64.size (inb_k h)).toLoadRect (View.loadsAt_vmem h_S128x16x1x64))
  let v : Vec F S128x16x1x64 .bf16 ← Prog.lift (.load a2 (Rect.unit (s := S128x16x16x64) ![0, 0, h.val, 0] S128x16x1x64.size (inb_k h)).toLoadRect (View.loadsAt_vmem h_S128x16x1x64))
  let _ : Vec F S1x1x16x64 .f32 ← Prog.lift (.load a6 (Rect.unit (s := S32x16x16x66) (offH d0 h.val 0) S1x1x16x64.size (inb_o d0 h)).toLoadRect (View.loadsAt_vmem h_S1x1x16x64))
  Prog.lift (.store a6 (Rect.unit (s := S32x16x16x66) (offH d0 h.val 0) S1x1x16x64.size (inb_o d0 h)) (k0_pay10 w wp (k0_pay5 q) (k0_pay6 k) v) Finset.univ (View.stores_vmem_bits_univ h_S1x1x16x64 rfl) (.inl rfl))
  let _ : Vec F S1x1x16x1 .f32 ← Prog.lift (.load a6 (Rect.unit (s := S32x16x16x66) (offH d0 h.val 64) S1x1x16x1.size (inb_m d0 h)).toLoadRect (View.loadsAt_vmem h_S1x1x16x1))
  Prog.lift (.store a6 (Rect.unit (s := S32x16x16x66) (offH d0 h.val 64) S1x1x16x1.size (inb_m d0 h)) (k0_pay11 wp (k0_pay5 q) (k0_pay6 k)) Finset.univ (View.stores_vmem_bits_univ h_S1x1x16x1 rfl) (.inl rfl))
  let _ : Vec F S1x1x16x1 .f32 ← Prog.lift (.load a6 (Rect.unit (s := S32x16x16x66) (offH d0 h.val 65) S1x1x16x1.size (inb_l d0 h)).toLoadRect (View.loadsAt_vmem h_S1x1x16x1))
  Prog.lift (.store a6 (Rect.unit (s := S32x16x16x66) (offH d0 h.val 65) S1x1x16x1.size (inb_l d0 h)) (k0_pay12 w wp (k0_pay5 q) (k0_pay6 k)) Finset.univ (View.stores_vmem_bits_univ h_S1x1x16x1 rfl) (.inl rfl))

/-- One copy: this device's row to the device `1 + i` places after it. -/
def sendT (a6 : Memref sig .tc .vmem S32x16x16x66 .f32) (a7 a8 : DmaSems sig S32) (d0 : Dev nD) (i : Fin 31) : Pg F PUnit :=
  Prog.lift (.enqueueDma (mine a6 d0) (.remote (Dev.tc (⟨kdev d0 (BitVec.ofNat 32 (1 + i.val)), kdev_lt d0 i⟩ : Dev nD)) (mine a6 d0) (.dma (semAt a7 i))) (.dma (semAt a8 i)) ((View.wordExact_bits rfl).reshape _ _) ((View.wordExact_bits rfl).reshape _ _) ⟨⟨rfl, Or.inl rfl⟩, trivial⟩)

/-- The two waits of one turn: this device's own copy sent, and one peer's row arrived. -/
def waitT (a6 : Memref sig .tc .vmem S32x16x16x66 .f32) (a7 a8 : DmaSems sig S32) (d0 : Dev nD) (i : Fin 31) : Pg F PUnit := do
  Prog.lift (.waitDma2 (semAt a7 i) (mine a6 d0) (mine a6 d0) ((View.wordExact_bits rfl).reshape _ _) ((View.wordExact_bits rfl).reshape _ _))
  Prog.lift (.waitDma2 (semAt a8 i) (theirs a6 d0 i) (theirs a6 d0 i) ((View.wordExact_bits rfl).reshape _ _) ((View.wordExact_bits rfl).reshape _ _))

/-- The merge of one head over the 32 rows. -/
def mergeT (a5 : Memref sig .tc .vmem S16x1x16x64 .f32) (a6 : Memref sig .tc .vmem S32x16x16x66 .f32) (h : Fin 16) : Pg F PUnit := do
  let gm : Vec F S32x1x16x1 .f32 ← Prog.lift (.load a6 (Rect.unit (s := S32x16x16x66) ![0, h.val, 0, 64] S32x1x16x1.size (inb_gm h)).toLoadRect (View.loadsAt_vmem h_S32x1x16x1))
  let gl : Vec F S32x1x16x1 .f32 ← Prog.lift (.load a6 (Rect.unit (s := S32x16x16x66) ![0, h.val, 0, 65] S32x1x16x1.size (inb_gl h)).toLoadRect (View.loadsAt_vmem h_S32x1x16x1))
  let go : Vec F S32x1x16x64 .f32 ← Prog.lift (.load a6 (Rect.unit (s := S32x16x16x66) ![0, h.val, 0, 0] S32x1x16x64.size (inb_go h)).toLoadRect (View.loadsAt_vmem h_S32x1x16x64))
  let _ : Vec F S16x1x1x64 .f32 ← Prog.lift (.load a5 (Rect.unit (s := S16x1x16x64) ![0, 0, h.val, 0] S16x1x1x64.size (inb_q h)).toLoadRect (View.loadsAt_vmem h_S16x1x1x64))
  Prog.lift (.store a5 (Rect.unit (s := S16x1x16x64) ![0, 0, h.val, 0] S16x1x1x64.size (inb_q h)) (k0_pay124 gm gl go) Finset.univ (View.stores_vmem_bits_univ h_S16x1x1x64 rfl) (.inl rfl))

/-- How often each request's live table names each page, as one weight per key. -/
def wgt (d0 : Dev nD) (bt : Vec F S16x128 .i32) (ln : Vec F S16 .i32) : FVec F S16x2048 .f32 :=
  k0_pay3 (k0_pay2 (posw d0) bt ln) (iota .tc S128x2048 32 [0] iota_S128x2048_d0_w32) (iota .tc S128x2048 32 [1] iota_S128x2048_d1_w32) 16#32

/-- Which keys have a positive weight. -/
def wpos (d0 : Dev nD) (bt : Vec F S16x128 .i32) (ln : Vec F S16 .i32) : IVec S16x2048 1 :=
  k0_pay4 (k0_pay2 (posw d0) bt ln) (iota .tc S128x2048 32 [0] iota_S128x2048_d0_w32) (iota .tc S128x2048 32 [1] iota_S128x2048_d1_w32) 16#32

/-- The body as loops. -/
def body (a0 : Memref sig .tc .vmem S16x1x16x64 .bf16) (a1 a2 : Memref sig .tc .vmem S128x16x16x64 .bf16)
    (a3 : Memref sig .tc .vmem S16x128 .i32) (a4 : Memref sig .tc .vmem S16 .i32)
    (a5 : Memref sig .tc .vmem S16x1x16x64 .f32) (a6 : Memref sig .tc .vmem S32x16x16x66 .f32) (a7 a8 : DmaSems sig S32) :
    Pg F PUnit := do
  let d0 : Dev nD ← Prog.lift .deviceId
  loop (sigT d0)
  semWaitWord barS.sem 31#32
  let bt : Vec F S16x128 .i32 ← Prog.lift (.load a3 (Rect.unit (s := S16x128) ![0, 0] S16x128.size inb_S16x128_S16x128_0_0).toLoadRect (View.loadsAt_vmem h_S16x128))
  let ln : Vec F S16 .i32 ← Prog.lift (.load a4 (Rect.unit (s := S16) ![0] S16.size inb_S16_S16_0).toLoadRect (View.loadsAt_vmem h_S16))
  loop (headT a0 a1 a2 a6 d0 (wgt d0 bt ln) (wpos d0 bt ln))
  loop (sendT a6 a7 a8 d0)
  loop (waitT a6 a7 a8 d0)
  loop (mergeT a5 a6)

set_option maxRecDepth 1000000 in
/-- The printed body is the body as loops: both unfold to the same statements. -/
theorem body_eq (a0 : Memref sig .tc .vmem S16x1x16x64 .bf16) (h0 : a0.IsWhole) (a1 : Memref sig .tc .vmem S128x16x16x64 .bf16)
    (h1 : a1.IsWhole) (a2 : Memref sig .tc .vmem S128x16x16x64 .bf16) (h2 : a2.IsWhole)
    (a3 : Memref sig .tc .vmem S16x128 .i32) (h3 : a3.IsWhole) (a4 : Memref sig .tc .vmem S16 .i32) (h4 : a4.IsWhole)
    (a5 : Memref sig .tc .vmem S16x1x16x64 .f32) (h5 : a5.IsWhole) (a6 : Memref sig .tc .vmem S32x16x16x66 .f32) (h6 : a6.IsWhole)
    (a7 a8 : DmaSems sig S32) :
    cc0_body (F := F) a0 h0 a1 h1 a2 h2 a3 h3 a4 h4 a5 h5 a6 h6 a7 a8 = body a0 a1 a2 a3 a4 a5 a6 a7 a8 := by
  chain_rfl

end Cert.KernelIdeal.Pf
-- ==== Proof.Contents.lean ====
/- What the buffers hold: every device's partial sums, gathered in one array of 32 rows, and the merged result.
   Written from the launch memory alone, the same on every device. -/
module

public import proofs.«01_k».proof.Proof.Shape
public import proofs.«01_k».proof.Proof.Gen.KernelIdeal.Launch
public import proofs.«01_k».proof.Proof.Gen.KernelIdeal.Points
public import Idealize.ShloMosaic.Lib.ValueIdxCore

@[expose] public section

noncomputable section

namespace Cert.KernelIdeal.Pf

open Cert.KernelIdeal Cert.KernelIdeal.Gen
open Idealize.ShloMosaic Idealize.ShloMosaic.TcCoe
open Idealize.ShloMosaic.ValueIdx

variable {F : FTy → Type} [FloatOps F]
variable (m : (ℓ : Loc nD τ sig) → Buf (Elt F) ℓ)

/-! ## The staged inputs -/

def stQ (c : Dev nD) : (cc0_stg0_0 : Ref sig .tc).ty.Contents (Elt F) :=
  (win0_0.blk (0 : Fin 1)).view.read (Elt F) (m ((c : Thread nD τ).loc main_arg0))
def stK (c : Dev nD) : (cc0_stg1_0 : Ref sig .tc).ty.Contents (Elt F) :=
  (win0_1.blk (0 : Fin 1)).view.read (Elt F) (m ((c : Thread nD τ).loc main_arg1))
def stV (c : Dev nD) : (cc0_stg2_0 : Ref sig .tc).ty.Contents (Elt F) :=
  (win0_2.blk (0 : Fin 1)).view.read (Elt F) (m ((c : Thread nD τ).loc main_arg2))
def stB (c : Dev nD) : (cc0_stg3_0 : Ref sig .tc).ty.Contents (Elt F) :=
  (win0_3.blk (0 : Fin 1)).view.read (Elt F) (m ((c : Thread nD τ).loc main_arg3))
def stL (c : Dev nD) : (cc0_stg4_0 : Ref sig .tc).ty.Contents (Elt F) :=
  (win0_4.blk (0 : Fin 1)).view.read (Elt F) (m ((c : Thread nD τ).loc main_arg4))

abbrev qM : Memref sig .tc .vmem S16x1x16x64 .bf16 := Memref.whole cc0_stg0_0
abbrev kM : Memref sig .tc .vmem S128x16x16x64 .bf16 := Memref.whole cc0_stg1_0
abbrev vM : Memref sig .tc .vmem S128x16x16x64 .bf16 := Memref.whole cc0_stg2_0
abbrev bM : Memref sig .tc .vmem S16x128 .i32 := Memref.whole cc0_stg3_0
abbrev lM : Memref sig .tc .vmem S16 .i32 := Memref.whole cc0_stg4_0
abbrev oM : Memref sig .tc .vmem S16x1x16x64 .f32 := Memref.whole cc0_stg5_0
abbrev gM : Memref sig .tc .vmem S32x16x16x66 .f32 := Memref.whole cc0_scratch0

abbrev rQ (h : Fin 16) : Rect S16x1x16x64 := Rect.unit (s := S16x1x16x64) ![0, 0, h.val, 0] S16x1x1x64.size (inb_q h)
abbrev rK (h : Fin 16) : Rect S128x16x16x64 := Rect.unit (s := S128x16x16x64) ![0, 0, h.val, 0] S128x16x1x64.size (inb_k h)
abbrev rO (c : Dev nD) (h : Fin 16) : Rect S32x16x16x66 := Rect.unit (s := S32x16x16x66) (offH c h.val 0) S1x1x16x64.size (inb_o c h)
abbrev rM (c : Dev nD) (h : Fin 16) : Rect S32x16x16x66 := Rect.unit (s := S32x16x16x66) (offH c h.val 64) S1x1x16x1.size (inb_m c h)
abbrev rL (c : Dev nD) (h : Fin 16) : Rect S32x16x16x66 := Rect.unit (s := S32x16x16x66) (offH c h.val 65) S1x1x16x1.size (inb_l c h)
abbrev rGO (h : Fin 16) : Rect S32x16x16x66 := Rect.unit (s := S32x16x16x66) ![0, h.val, 0, 0] S32x1x16x64.size (inb_go h)
abbrev rGM (h : Fin 16) : Rect S32x16x16x66 := Rect.unit (s := S32x16x16x66) ![0, h.val, 0, 64] S32x1x16x1.size (inb_gm h)
abbrev rGL (h : Fin 16) : Rect S32x16x16x66 := Rect.unit (s := S32x16x16x66) ![0, h.val, 0, 65] S32x1x16x1.size (inb_gl h)

/-- One head's query, keys and values, as the body loads them. -/
def ldQ (c : Dev nD) (h : Fin 16) : Vec F S16x1x1x64 .bf16 := qM.view.readAt (Elt F) (rQ h).toLoadRect (stQ m c)
def ldK (c : Dev nD) (h : Fin 16) : Vec F S128x16x1x64 .bf16 := kM.view.readAt (Elt F) (rK h).toLoadRect (stK m c)
def ldV (c : Dev nD) (h : Fin 16) : Vec F S128x16x1x64 .bf16 := vM.view.readAt (Elt F) (rK h).toLoadRect (stV m c)
def ldB (c : Dev nD) : Vec F S16x128 .i32 :=
  bM.view.readAt (Elt F) (Rect.unit (s := S16x128) ![0, 0] S16x128.size inb_S16x128_S16x128_0_0).toLoadRect (stB m c)
def ldL (c : Dev nD) : Vec F S16 .i32 :=
  lM.view.readAt (Elt F) (Rect.unit (s := S16) ![0] S16.size inb_S16_S16_0).toLoadRect (stL m c)

/-! ## The partial sums -/

def wOf (c : Dev nD) : FVec F S16x2048 .f32 := wgt c (ldB m c) (ldL m c)
def pOf (c : Dev nD) : IVec S16x2048 1 := wpos c (ldB m c) (ldL m c)

/-- Device `c`'s weighted sum of the values, largest score and sum of the weights, at head `h`. -/
def partO (c : Dev nD) (h : Fin 16) : Vec F S1x1x16x64 .f32 :=
  k0_pay10 (wOf m c) (pOf m c) (k0_pay5 (ldQ m c h)) (k0_pay6 (ldK m c h)) (ldV m c h)
def partM (c : Dev nD) (h : Fin 16) : Vec F S1x1x16x1 .f32 :=
  k0_pay11 (pOf m c) (k0_pay5 (ldQ m c h)) (k0_pay6 (ldK m c h))
def partL (c : Dev nD) (h : Fin 16) : Vec F S1x1x16x1 .f32 :=
  k0_pay12 (wOf m c) (pOf m c) (k0_pay5 (ldQ m c h)) (k0_pay6 (ldK m c h))

/-- The gathered array: row `e` is device `e`'s partial sums, the value sums in lanes 0 to 63, the largest score in
    lane 64, the sum of the weights in lane 65. -/
def gat : (cc0_scratch0 : Ref sig .tc).ty.Contents (Elt F) := fun i : S32x16x16x66.Idx =>
  if h : (i 3).val < 64 then partO m (i 0) (i 1) (ix4 0 0 (i 2) ⟨(i 3).val, h⟩)
  else if (i 3).val = 64 then partM m (i 0) (i 1) (ix4 0 0 (i 2) 0)
  else partL m (i 0) (i 1) (ix4 0 0 (i 2) 0)

/-- One head of the result, from the gathered array. -/
def outH (h : Fin 16) : Vec F S16x1x1x64 .f32 :=
  k0_pay124 (gM.view.readAt (Elt F) (rGM h).toLoadRect (gat m)) (gM.view.readAt (Elt F) (rGL h).toLoadRect (gat m))
    (gM.view.readAt (Elt F) (rGO h).toLoadRect (gat m))

/-- The result, the same on every device. -/
def outA : (cc0_stg5_0 : Ref sig .tc).ty.Contents (Elt F) := fun i : S16x1x16x64.Idx =>
  outH m (i 2) (ix4 (i 0) 0 0 (i 3))

/-! ## A store into part of a whole buffer -/

omit [FloatOps F] in
theorem write_unit (b : Ref sig .tc) (off size : Fin b.ty.shape.rank → Nat) (inb : ∀ a, off a + size a ≤ b.ty.shape.size a)
    (f : b.ty.Contents (Elt F)) (w : (Rect.unit (s := b.ty.shape) off size inb).shape.Idx → Elt F b.ty.elt) (i : b.ty.Idx) :
    ((Memref.whole b).access (Rect.unit (s := b.ty.shape) off size inb)).write (Elt F) f w Finset.univ i
      = if h : ∀ a, off a ≤ (i a).val ∧ (i a).val < off a + size a then
          w (fun a => ⟨(i a).val - off a, by have := h a; show _ < size a; omega⟩)
        else f i := by
  by_cases h : ∀ a, off a ≤ (i a).val ∧ (i a).val < off a + size a
  · rw [dif_pos h]
    have hx : ((Memref.whole b).access (Rect.unit (s := b.ty.shape) off size inb)).emb
        (fun a => ⟨(i a).val - off a, by have := h a; show _ < size a; omega⟩) = i := by
      funext a
      refine Fin.ext ?_
      show off a + 1 * ((i a).val - off a) = (i a).val
      have := h a; omega
    conv_lhs => rw [← hx]
    rw [View.write_emb_of_mem _ _ (Finset.mem_univ _)]
    rfl
  · rw [dif_neg h]
    refine View.write_of_not_mem _ _ _ ?_
    rw [View.setOn_univ, View.set_slice_whole, Rect.mem_set_unit]
    exact h

/-! ## The rows of the gathered array -/

/-- Row `r` of the scratch. -/
def row (r : Dev nD) : Finset S32x16x16x66.Idx := Finset.univ.filter fun i => (i 0).val = r.val

theorem mem_row (r : Dev nD) (i : S32x16x16x66.Idx) : i ∈ row r ↔ (i 0).val = r.val := by
  unfold row; rw [Finset.mem_filter]; exact ⟨fun h => h.2, fun h => ⟨Finset.mem_univ _, h⟩⟩

theorem row_disjoint (r r' : Dev nD) (h : r ≠ r') : Disjoint (row r) (row r') :=
  Finset.disjoint_left.mpr fun i hi hi' => h (Fin.ext (((mem_row r i).mp hi).symm.trans ((mem_row r' i).mp hi')))

theorem row_cover : (Finset.univ : Finset (Dev nD)).biUnion row = (Finset.univ : Finset S32x16x16x66.Idx) := by
  ext i
  simp only [Finset.mem_biUnion, Finset.mem_univ, true_and, iff_true]
  exact ⟨i 0, (mem_row _ _).mpr rfl⟩

/-- The row a copy names, by its offset. -/
theorem row_view (r : Dev nD) (off : Fin 4 → Nat) (inb) (ho : off = ![r.val, 0, 0, 0]) :
    (((gM.slice (Rect.unit (s := S32x16x16x66) off S1x16x16x66.size inb) (fun _ => rfl)).squeeze
      S16x16x66 squeezes_S1x16x16x66_S16x16x66).view.set : Finset S32x16x16x66.Idx) = row r := by
  subst ho
  show (View.reshape _ _ _).set = _
  rw [View.set_reshape]
  show ((View.whole cc0_scratch0).slice _).set = _
  rw [View.set_slice_whole]
  ext i
  rw [Rect.mem_set_unit, mem_row]
  have h1 : (i 1).val < 16 := (i 1).isLt
  have h2 : (i 2).val < 16 := (i 2).isLt
  have h3 : (i 3).val < 66 := (i 3).isLt
  constructor
  · intro h
    have := h 0
    simp [S1x16x16x66] at this
    omega
  · intro h a
    match a with
    | 0 => show r.val ≤ (i 0).val ∧ (i 0).val < r.val + 1; omega
    | 1 => show 0 ≤ (i 1).val ∧ (i 1).val < 0 + 16; omega
    | 2 => show 0 ≤ (i 2).val ∧ (i 2).val < 0 + 16; omega
    | 3 => show 0 ≤ (i 3).val ∧ (i 3).val < 0 + 66; omega

theorem mine_set (c : Dev nD) : ((mine gM c).view.set : Finset S32x16x16x66.Idx) = row c := row_view c _ _ (k0_off49_eq c)

/-! ## The stores of one head -/

/-- The order of the stores into one row: 3 per head. -/
def rank (i : S32x16x16x66.Idx) : Nat := 3 * (i 1).val + ((i 3).val - 63)

/-- Row `c` holds device `c`'s partial sums, as far as the first `n` stores reach. -/
def Upto (c : Dev nD) (n : Nat) (f : (cc0_scratch0 : Ref sig .tc).ty.Contents (Elt F)) : Prop :=
  ∀ i : S32x16x16x66.Idx, (i 0).val = c.val → rank i < n → f i = gat m i

/-- A store of one head into the row, read at an index. -/
theorem write_row (c : Dev nD) (h : Fin 16) (l n : Nat) (off : Fin 4 → Nat) (ho : off = ![c.val, h.val, 0, l])
    (inb : ∀ a, off a + (![1, 1, 16, n] : Fin 4 → Nat) a ≤ S32x16x16x66.size a)
    (f : (cc0_scratch0 : Ref sig .tc).ty.Contents (Elt F)) (w : (⟨4, ![1, 1, 16, n]⟩ : Shape).Idx → Elt F .f32) (i : S32x16x16x66.Idx) :
    (gM.access (Rect.unit (s := S32x16x16x66) off ![1, 1, 16, n] inb)).write (Elt F) f w Finset.univ i
      = if H : (i 0).val = c.val ∧ (i 1).val = h.val ∧ l ≤ (i 3).val ∧ (i 3).val < l + n then
          w (ix4 0 0 (i 2) ⟨(i 3).val - l, Nat.sub_lt_left_of_lt_add H.2.2.1 H.2.2.2⟩)
        else f i := by
  subst ho
  have h2 : (i 2).val < 16 := (i 2).isLt
  refine (write_unit cc0_scratch0 ![c.val, h.val, 0, l] ![1, 1, 16, n] inb f w i).trans ?_
  by_cases H : (i 0).val = c.val ∧ (i 1).val = h.val ∧ l ≤ (i 3).val ∧ (i 3).val < l + n
  · have H' := H
    obtain ⟨e0, e1, e2, e3⟩ := H'
    have hin : ∀ a : Fin 4, (![c.val, h.val, 0, l] : Fin 4 → Nat) a ≤ (i a).val
        ∧ (i a).val < (![c.val, h.val, 0, l] : Fin 4 → Nat) a + (![1, 1, 16, n] : Fin 4 → Nat) a := by
      intro a
      match a with
      | 0 => show c.val ≤ (i 0).val ∧ (i 0).val < c.val + 1; omega
      | 1 => show h.val ≤ (i 1).val ∧ (i 1).val < h.val + 1; omega
      | 2 => show 0 ≤ (i 2).val ∧ (i 2).val < 0 + 16; omega
      | 3 => show l ≤ (i 3).val ∧ (i 3).val < l + n; omega
    refine (dif_pos hin).trans ?_
    split
    swap
    · rename_i hn; exact absurd H hn
    refine congrArg w (funext fun a => Fin.ext ?_)
    match a with
    | 0 => show (i 0).val - c.val = 0; omega
    | 1 => show (i 1).val - h.val = 0; omega
    | 2 => rfl
    | 3 => rfl
  · refine (dif_neg fun hin => ?_).trans ?_
    swap
    · split
      · rename_i hp; exact absurd hp H
      · rfl
    have t0 := hin 0; have t1 := hin 1; have t3 := hin 3
    change c.val ≤ (i 0).val ∧ (i 0).val < c.val + 1 at t0
    change h.val ≤ (i 1).val ∧ (i 1).val < h.val + 1 at t1
    change l ≤ (i 3).val ∧ (i 3).val < l + n at t3
    exact H ⟨by omega, by omega, t3.1, t3.2⟩

theorem upto_o (c : Dev nD) (h : Fin 16) (f) (hf : Upto m c (3 * h.val) f) :
    Upto m c (3 * h.val + 1) ((gM.access (rO c h)).write (Elt F) f (partO m c h) Finset.univ) := by
  intro i hi hr
  have h3 : (i 3).val < 66 := (i 3).isLt
  unfold rank at hr
  refine (write_row c h 0 64 _ (offH_eq ..) (inb_o c h) f (partO m c h) i).trans ?_
  split
  · rename_i H
    obtain rfl : i 0 = c := Fin.ext hi
    obtain rfl : i 1 = h := Fin.ext H.2.1
    unfold gat
    rw [dif_pos (by omega)]; rfl
  · refine hf i hi ?_
    unfold rank; omega

theorem upto_m (c : Dev nD) (h : Fin 16) (f) (hf : Upto m c (3 * h.val + 1) f) :
    Upto m c (3 * h.val + 2) ((gM.access (rM c h)).write (Elt F) f (partM m c h) Finset.univ) := by
  intro i hi hr
  have h3 : (i 3).val < 66 := (i 3).isLt
  unfold rank at hr
  refine (write_row c h 64 1 _ (offH_eq ..) (inb_m c h) f (partM m c h) i).trans ?_
  split
  · rename_i H
    obtain rfl : i 0 = c := Fin.ext hi
    obtain rfl : i 1 = h := Fin.ext H.2.1
    unfold gat
    rw [dif_neg (by omega), if_pos (by omega)]
    refine congrArg _ (congrArg (ix4 0 0 (i 2)) (Fin.ext ?_))
    show (i 3).val - 64 = 0; omega
  · refine hf i hi ?_
    unfold rank; omega

theorem upto_l (c : Dev nD) (h : Fin 16) (f) (hf : Upto m c (3 * h.val + 2) f) :
    Upto m c (3 * h.val + 3) ((gM.access (rL c h)).write (Elt F) f (partL m c h) Finset.univ) := by
  intro i hi hr
  have h3 : (i 3).val < 66 := (i 3).isLt
  unfold rank at hr
  refine (write_row c h 65 1 _ (offH_eq ..) (inb_l c h) f (partL m c h) i).trans ?_
  split
  · rename_i H
    obtain rfl : i 0 = c := Fin.ext hi
    obtain rfl : i 1 = h := Fin.ext H.2.1
    unfold gat
    rw [dif_neg (by omega), if_neg (by omega)]
    refine congrArg _ (congrArg (ix4 0 0 (i 2)) (Fin.ext ?_))
    show (i 3).val - 65 = 0; omega
  · refine hf i hi ?_
    unfold rank; omega

/-- After all 48 stores the row is complete. -/
theorem upto_all (c : Dev nD) (f) (hf : Upto m c 48 f) (i : S32x16x16x66.Idx) (hi : i ∈ row c) : f i = gat m i := by
  have h1 : (i 1).val < 16 := (i 1).isLt
  have h3 : (i 3).val < 66 := (i 3).isLt
  exact hf i ((mem_row c i).mp hi) (by unfold rank; omega)

/-- Where the loads and stores of one head lie: in the row. -/
theorem rO_sub (c : Dev nD) (h : Fin 16) : (gM.view.setOn (rO c h).toLoadRect.set : Finset S32x16x16x66.Idx) ⊆ row c := by
  intro i hi
  have hi' : i ∈ (rO c h).set := by
    obtain ⟨x, hx, rfl⟩ := Finset.mem_map.mp hi
    exact hx
  rw [Rect.mem_set_unit] at hi'
  have := hi' 0
  rw [offH_eq] at this
  simp [S1x1x16x64] at this
  exact (mem_row c i).mpr (by omega)
theorem rM_sub (c : Dev nD) (h : Fin 16) : (gM.view.setOn (rM c h).toLoadRect.set : Finset S32x16x16x66.Idx) ⊆ row c := by
  intro i hi
  have hi' : i ∈ (rM c h).set := by
    obtain ⟨x, hx, rfl⟩ := Finset.mem_map.mp hi
    exact hx
  rw [Rect.mem_set_unit] at hi'
  have := hi' 0
  rw [offH_eq] at this
  simp [S1x1x16x1] at this
  exact (mem_row c i).mpr (by omega)
theorem rL_sub (c : Dev nD) (h : Fin 16) : (gM.view.setOn (rL c h).toLoadRect.set : Finset S32x16x16x66.Idx) ⊆ row c := by
  intro i hi
  have hi' : i ∈ (rL c h).set := by
    obtain ⟨x, hx, rfl⟩ := Finset.mem_map.mp hi
    exact hx
  rw [Rect.mem_set_unit] at hi'
  have := hi' 0
  rw [offH_eq] at this
  simp [S1x1x16x1] at this
  exact (mem_row c i).mpr (by omega)

theorem rO_sub' (c : Dev nD) (h : Fin 16) : ((gM.access (rO c h)).setOn Finset.univ : Finset S32x16x16x66.Idx) ⊆ row c := by
  intro i hi
  refine rO_sub c h ?_
  rw [View.setOn_univ] at hi
  exact Eq.mp (congrArg (i ∈ ·) (View.set_slice (v := View.whole cc0_scratch0) (rO c h))) hi
theorem rM_sub' (c : Dev nD) (h : Fin 16) : ((gM.access (rM c h)).setOn Finset.univ : Finset S32x16x16x66.Idx) ⊆ row c := by
  intro i hi
  refine rM_sub c h ?_
  rw [View.setOn_univ] at hi
  exact Eq.mp (congrArg (i ∈ ·) (View.set_slice (v := View.whole cc0_scratch0) (rM c h))) hi
theorem rL_sub' (c : Dev nD) (h : Fin 16) : ((gM.access (rL c h)).setOn Finset.univ : Finset S32x16x16x66.Idx) ⊆ row c := by
  intro i hi
  refine rL_sub c h ?_
  rw [View.setOn_univ] at hi
  exact Eq.mp (congrArg (i ∈ ·) (View.set_slice (v := View.whole cc0_scratch0) (rL c h))) hi

/-! ## The stores of the merge -/

/-- The result buffer is complete for the first `n` heads. -/
def OutUpto (n : Nat) (f : (cc0_stg5_0 : Ref sig .tc).ty.Contents (Elt F)) : Prop :=
  ∀ i : S16x1x16x64.Idx, (i 2).val < n → f i = outA m i

/-- A store of one head of the result, read at an index. -/
theorem write_out (h : Fin 16) (f : (cc0_stg5_0 : Ref sig .tc).ty.Contents (Elt F)) (w : S16x1x1x64.Idx → Elt F .f32) (i : S16x1x16x64.Idx) :
    (oM.access (rQ h)).write (Elt F) f w Finset.univ i
      = if (i 2).val = h.val then w (ix4 (i 0) 0 0 (i 3)) else f i := by
  have h0 : (i 0).val < 16 := (i 0).isLt
  have h1 : (i 1).val < 1 := (i 1).isLt
  have h3 : (i 3).val < 64 := (i 3).isLt
  refine (write_unit cc0_stg5_0 ![0, 0, h.val, 0] ![16, 1, 1, 64] (inb_q h) f w i).trans ?_
  by_cases H : (i 2).val = h.val
  · have hin : ∀ a : Fin 4, (![0, 0, h.val, 0] : Fin 4 → Nat) a ≤ (i a).val
        ∧ (i a).val < (![0, 0, h.val, 0] : Fin 4 → Nat) a + (![16, 1, 1, 64] : Fin 4 → Nat) a := by
      intro a
      match a with
      | 0 => show 0 ≤ (i 0).val ∧ (i 0).val < 0 + 16; omega
      | 1 => show 0 ≤ (i 1).val ∧ (i 1).val < 0 + 1; omega
      | 2 => show h.val ≤ (i 2).val ∧ (i 2).val < h.val + 1; omega
      | 3 => show 0 ≤ (i 3).val ∧ (i 3).val < 0 + 64; omega
    refine (dif_pos hin).trans (Eq.trans ?_ (if_pos H).symm)
    refine congrArg w (funext fun a => Fin.ext ?_)
    match a with
    | 0 => rfl
    | 1 => show (i 1).val - 0 = 0; omega
    | 2 => show (i 2).val - h.val = 0; omega
    | 3 => rfl
  · refine (dif_neg fun hin => ?_).trans (if_neg H).symm
    have t2 := hin 2
    change h.val ≤ (i 2).val ∧ (i 2).val < h.val + 1 at t2
    omega

theorem outUpto_step (h : Fin 16) (f) (hf : OutUpto m h.val f) :
    OutUpto m (h.val + 1) ((oM.access (rQ h)).write (Elt F) f (outH m h) Finset.univ) := by
  intro i hr
  refine (write_out h f (outH m h) i).trans ?_
  split
  · rename_i H
    obtain rfl : i 2 = h := Fin.ext H
    rfl
  · exact hf i (by omega)

theorem outUpto_all (f) (hf : OutUpto m 16 f) : f = outA m :=
  funext fun i : S16x1x16x64.Idx => hf i (i 2).isLt

/-! ## A row that arrives -/

theorem landed (c : Dev nD) (fd : (cc0_scratch0 : Ref sig .tc).ty.Contents (Elt F)) (i : S32x16x16x66.Idx) (hi : i ∈ row c) :
    (mine gM c).view.write (Elt F) fd ((mine gM c).view.read (Elt F) (gat m)) Finset.univ i = gat m i := by
  rw [← mine_set] at hi
  obtain ⟨x, -, rfl⟩ := Finset.mem_map.mp hi
  rw [View.write_emb_of_mem _ _ (Finset.mem_univ _)]
  rfl

end Cert.KernelIdeal.Pf
-- ==== Proof.Protocol.lean ====
/- The exchange: which semaphore cell is paid by whom, with what handed over. Every device signals every other device's
   barrier cell, handing over its own scratch's row for that device; once it has all 31 signals it owns row `c` of every
   peer and copies its row there; the copy's landing hands the peer its row back, filled. -/
module

public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by the 31 turns) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The devices `1 + i` places after and before -/

def fwd (c : Dev nD) (i : Fin 31) : Dev nD := ⟨(c.val + (1 + i.val)) % 32, Nat.mod_lt _ (by decide)⟩
def bwd (c : Dev nD) (i : Fin 31) : Dev nD := ⟨((c.val + 31) - i.val) % 32, Nat.mod_lt _ (by decide)⟩

theorem bwd_fwd (c : Dev nD) (i : Fin 31) : bwd (fwd c i) i = c := by
  have := c.isLt; have := i.isLt
  refine Fin.ext ?_
  show ((c.val + (1 + i.val)) % 32 + 31 - i.val) % 32 = c.val
  have : nD = 32 := rfl
  omega
theorem fwd_bwd (c : Dev nD) (i : Fin 31) : fwd (bwd c i) i = c := by
  have := c.isLt; have := i.isLt
  refine Fin.ext ?_
  show (((c.val + 31) - i.val) % 32 + (1 + i.val)) % 32 = c.val
  have : nD = 32 := rfl
  omega
theorem fwd_rev (c : Dev nD) (i : Fin 31) : fwd c (Fin.rev i) = bwd c i := by
  have := c.isLt; have := i.isLt
  refine Fin.ext ?_
  show (c.val + (1 + (31 - (i.val + 1)))) % 32 = ((c.val + 31) - i.val) % 32
  omega
theorem fwd_inj (c : Dev nD) : Function.Injective (fwd c) := by
  intro i j h
  have := c.isLt; have := i.isLt; have := j.isLt
  have h' : (c.val + (1 + i.val)) % 32 = (c.val + (1 + j.val)) % 32 := congrArg Fin.val h
  have : nD = 32 := rfl
  exact Fin.ext (by omega)
theorem fwd_ne (c : Dev nD) (i : Fin 31) : fwd c i ≠ c := by
  intro h
  have := c.isLt; have := i.isLt
  have h' : (c.val + (1 + i.val)) % 32 = c.val := congrArg Fin.val h
  have : nD = 32 := rfl
  omega

theorem kdev_fwd (c : Dev nD) (i : Fin 31) : (⟨kdev c (BitVec.ofNat 32 (1 + i.val)), kdev_lt c i⟩ : Dev nD) = fwd c i :=
  Fin.ext (kdev_eq c i)

theorem theirs_set (c : Dev nD) (i : Fin 31) : ((theirs gM c i).view.set : Finset S32x16x16x66.Idx) = row (bwd c i) :=
  row_view (bwd c i) _ _ (k0_off50_eq c i)

/-- Everyone, this device first. -/
theorem univ_around (c : Dev nD) : (Finset.univ : Finset (Dev nD)) = insert c (Finset.univ.map ⟨fwd c, fwd_inj c⟩) := by
  refine (Finset.eq_univ_of_card _ ?_).symm
  rw [Finset.card_insert_of_notMem, Finset.card_map, Finset.card_univ]
  · rw [Fintype.card_fin, Fintype.card_fin]
  intro h
  obtain ⟨i, -, hi⟩ := Finset.mem_map.mp h
  exact fwd_ne c i hi

/-! ## The cells -/

/-- Send (`false`) or receive (`true`) semaphore `j`. -/
def dsem (b : Bool) (j : Fin 32) : DmaSem sig := (⟨(if b then 38 else 6) + j.val, by split <;> omega⟩ : Fin 70)

theorem semAt_send : ∀ i : Fin 31, semAt cc0_scratch1 i = dsem false i.succ := by decide
theorem semAt_recv : ∀ i : Fin 31, semAt cc0_scratch2 i = dsem true i.succ := by decide

abbrev osem : Bool × Fin 32 → SemLoc sig := fun k => .dma (dsem k.1 k.2)
abbrev CK : Type := Unit ⊕ (Bool × Fin 32)
abbrev csem : CK → SemLoc sig := Sum.elim (fun _ => .reg barS.sem) osem
abbrev kcell (ck : Dev nD × CK) : GSem nD τ sig := ((ck.1 : Thread nD τ), csem ck.2)

abbrev barCell (c : Dev nD) : GSem nD τ sig := ((c : Thread nD τ), .reg barS.sem)
abbrev sendCell (c : Dev nD) (i : Fin 31) : GSem nD τ sig := ((c : Thread nD τ), .dma (dsem false i.succ))
abbrev recvCell (c : Dev nD) (i : Fin 31) : GSem nD τ sig := ((c : Thread nD τ), .dma (dsem true i.succ))

abbrev N : ℕ := (mine gM (0 : Dev nD)).view.dmaCredit
theorem N_pos : 0 < N := View.dmaCredit_pos _ (by decide)

theorem dsem_inj : ∀ b b' j j', dsem b j = dsem b' j' → b = b' ∧ j = j' := by decide +kernel

theorem kcell_injective : Function.Injective (kcell : Dev nD × CK → GSem nD τ sig) := by
  rintro ⟨c, k⟩ ⟨c', k'⟩ h
  have h1 : c = c' := congrArg (fun g : GSem nD τ sig => g.1.1) h
  subst h1
  have h2 : csem k = csem k' := congrArg Prod.snd h
  rcases k with ⟨⟩ | ⟨b, j⟩ <;> rcases k' with ⟨⟩ | ⟨b', j'⟩
  · rfl
  · cases h2
  · cases h2
  · have h3 : dsem b j = dsem b' j' := SemLoc.dma.inj h2
    obtain ⟨rfl, rfl⟩ := dsem_inj _ _ _ _ h3
    rfl

/-! ## What is handed over -/

/-- Row `r` of device `d`'s scratch at contents `f`. -/
def rowPts (d r : Dev nD) (q : PosShare TreeShare) (f : (cc0_scratch0 : Ref sig .tc).ty.Contents (Elt F)) : sProp 𝕄 :=
  ((d : Thread nD τ).loc cc0_scratch0) ↦[row r]{q} f

omit [FloatOps F] in
instance rowPts_storable (d r : Dev nD) (q) (f) : BI.Storable (upEmb : UEmb _ 𝕄) (rowPts (F := F) d r q f) := by
  unfold rowPts; infer_instance

/-- The share of its own row a device lends the copy of turn `i`. -/
abbrev lent (i : Fin 31) : PosShare TreeShare := Transfers.shareTok fullShare 31 i

def barPay (c : Dev nD) (i : Fin 31) : sProp 𝕄 := iprop(∃ f, rowPts (bwd c i) c fullShare f)
def recvPay (c : Dev nD) (i : Fin 31) : sProp 𝕄 := rowPts c (bwd c i) fullShare (gat m)
def sendPay (c : Dev nD) (i : Fin 31) : sProp 𝕄 := rowPts c c (lent i) (gat m)

/-- Which turn a send or receive semaphore belongs to. -/
def turnOf (s : Fin 70) : Fin 31 := ⟨(if 38 ≤ s.val then s.val - 39 else s.val - 7) % 31, Nat.mod_lt _ (by decide)⟩
theorem turnOf_dsem : ∀ (b : Bool) (i : Fin 31), turnOf (dsem b i.succ) = i := by decide
theorem dsem_false_lt : ∀ j : Fin 32, ¬ 38 ≤ (dsem false j : Fin 70).val := by decide
theorem dsem_true_ge : ∀ j : Fin 32, 38 ≤ (dsem true j : Fin 70).val := by decide
/-- The semaphores in use: not the pipeline's, and not slot 0 of either array. -/
def live (s : Fin 70) : Bool := decide (6 < s.val) && decide (s.val ≠ 38)
theorem live_dsem : ∀ (b : Bool) (i : Fin 31), live (dsem b i.succ) = true := by decide
theorem live_zero : ∀ b : Bool, live (dsem b 0) = false := by decide

/-! ## The schedule: one round -/

def exRd : Rounds.Schedule (GSem nD τ sig) (Fin 31) 𝕄 where
  duties g r := if r = 0 ∧ g.1.2 = .tc then
      (match g.2 with
        | .reg s => if s = barS.sem then Finset.univ else ∅
        | .dma s => if live s then {0} else ∅)
    else ∅
  unitless _ := False
  amount g _ _ := match g.2 with | .reg _ => 1 | .dma _ => N
  payload g _ d := match g.2 with
    | .reg _ => barPay g.1.1 d
    | .dma s => if 38 ≤ (s : Fin 70).val then recvPay m g.1.1 (turnOf s) else sendPay m g.1.1 (turnOf s)
  amount_pos g _ _ _ := by
    split
    · exact Nat.one_pos
    · exact N_pos

instance exRd_payload_storable (g : GSem nD τ sig) (r : ℕ) (d : Fin 31) :
    BI.Storable (upEmb : UEmb _ 𝕄) ((exRd (F := F) m).payload g r d) := by
  show BI.Storable upEmb (match g.2 with
    | .reg _ => barPay g.1.1 d
    | .dma s => if 38 ≤ (s : Fin 70).val then recvPay m g.1.1 (turnOf s) else sendPay m g.1.1 (turnOf s))
  unfold barPay recvPay sendPay
  (repeat' split) <;> infer_instance

section Sched
variable (c : Dev nD) (i : Fin 31)

theorem duties_bar : (exRd (F := F) m).duties (barCell c) 0 = Finset.univ := rfl
theorem duties_send : (exRd (F := F) m).duties (sendCell c i) 0 = {0} := by
  dsimp only [exRd]; rw [if_pos ⟨rfl, rfl⟩, if_pos (live_dsem _ _)]
theorem duties_recv : (exRd (F := F) m).duties (recvCell c i) 0 = {0} := by
  dsimp only [exRd]; rw [if_pos ⟨rfl, rfl⟩, if_pos (live_dsem _ _)]
theorem duties_later (g : GSem nD τ sig) : ∀ r, 1 ≤ r → (exRd (F := F) m).duties g r = ∅ :=
  fun r hr => by dsimp only [exRd]; rw [if_neg fun h => by omega]
theorem duties_zero (b : Bool) : ∀ r, 0 ≤ r → (exRd (F := F) m).duties ((c : Thread nD τ), .dma (dsem b 0)) r = ∅ := by
  intro r _
  dsimp only [exRd]
  rw [if_neg (c := live (dsem b 0) = true) (by rw [live_zero]; exact Bool.false_ne_true)]
  split <;> rfl

theorem amount_bar (d : Fin 31) : (exRd (F := F) m).amount (barCell c) 0 d = 1 := rfl
theorem amount_send (d : Fin 31) : (exRd (F := F) m).amount (sendCell c i) 0 d = N := rfl
theorem amount_recv (d : Fin 31) : (exRd (F := F) m).amount (recvCell c i) 0 d = N := rfl

theorem expect_bar : (exRd (F := F) m).expect (barCell c) 0 = 31 := by
  unfold Schedule.expect Schedule.amountOf
  rw [duties_bar, Finset.sum_congr rfl fun d _ => amount_bar m c d, Finset.sum_const, Finset.card_univ, Fintype.card_fin, smul_eq_mul]
theorem expect_send : (exRd (F := F) m).expect (sendCell c i) 0 = N := by
  unfold Schedule.expect Schedule.amountOf; rw [duties_send, Finset.sum_singleton, amount_send]
theorem expect_recv : (exRd (F := F) m).expect (recvCell c i) 0 = N := by
  unfold Schedule.expect Schedule.amountOf; rw [duties_recv, Finset.sum_singleton, amount_recv]

theorem payload_bar (d : Fin 31) : (exRd (F := F) m).payload (barCell c) 0 d = barPay c d := rfl
theorem payload_send (d : Fin 31) : (exRd (F := F) m).payload (sendCell c i) 0 d = sendPay m c i := by
  dsimp only [exRd]; rw [if_neg (dsem_false_lt _), turnOf_dsem]
theorem payload_recv (d : Fin 31) : (exRd (F := F) m).payload (recvCell c i) 0 d = recvPay m c i := by
  dsimp only [exRd]; rw [if_pos (dsem_true_ge _), turnOf_dsem]

theorem rest_bar : bigSep ((exRd (F := F) m).duties (barCell c) 0 \ ∅) (fun d => (exRd (F := F) m).payload (barCell c) 0 d)
    = bigSep Finset.univ (fun d => barPay c d) := by
  rw [Finset.sdiff_empty, duties_bar]; rfl
theorem rest_send : bigSep ((exRd (F := F) m).duties (sendCell c i) 0 \ ∅) (fun d => (exRd (F := F) m).payload (sendCell c i) 0 d) = sendPay m c i := by
  rw [Finset.sdiff_empty, duties_send, bigSep_singleton, payload_send]
theorem rest_recv : bigSep ((exRd (F := F) m).duties (recvCell c i) 0 \ ∅) (fun d => (exRd (F := F) m).payload (recvCell c i) 0 d) = recvPay m c i := by
  rw [Finset.sdiff_empty, duties_recv, bigSep_singleton, payload_recv]

end Sched

/-! ## Turns still to come, turns done -/

def rem (n : Nat) : Finset (Fin 31) := Finset.univ.filter fun i => n ≤ i.val
def don (n : Nat) : Finset (Fin 31) := Finset.univ.filter fun i => i.val < n

theorem rem_zero : rem 0 = Finset.univ := by decide
theorem rem_all : rem 31 = ∅ := by decide
theorem rem_step (i : Fin 31) : rem i.val = insert i (rem (i.val + 1)) := by
  ext j; simp only [rem, Finset.mem_filter, Finset.mem_univ, true_and, Finset.mem_insert, Fin.ext_iff]; omega
theorem rem_not (i : Fin 31) : i ∉ rem (i.val + 1) := by
  simp only [rem, Finset.mem_filter, Finset.mem_univ, true_and]; omega
theorem don_zero : don 0 = ∅ := by decide
theorem don_all : don 31 = Finset.univ := by decide
theorem don_step (i : Fin 31) : don (i.val + 1) = insert i (don i.val) := by
  ext j; simp only [don, Finset.mem_filter, Finset.mem_univ, true_and, Finset.mem_insert, Fin.ext_iff]; omega
theorem don_not (i : Fin 31) : i ∉ don i.val := by
  simp only [don, Finset.mem_filter, Finset.mem_univ, true_and]; omega

omit [FloatOps F] in
theorem rem_peel (i : Fin 31) (Φ : Fin 31 → sProp 𝕄) : bigSep (rem i.val) Φ = iprop(Φ i ∗ bigSep (rem (i.val + 1)) Φ) := by
  rw [rem_step, bigSep_insert (rem_not i)]; rfl
omit [FloatOps F] in
theorem don_push (i : Fin 31) (Φ : Fin 31 → sProp 𝕄) : bigSep (don (i.val + 1)) Φ = iprop(Φ i ∗ bigSep (don i.val) Φ) := by
  rw [don_step, bigSep_insert (don_not i)]; rfl

/-! ## What each device owes; the levels -/

def OB (c : Dev nD) (n : Nat) : CellTallies nD τ sig Unit := ∑ i ∈ rem n, tallyAt (barCell (fwd c i)) () 1
def OR (c : Dev nD) (n : Nat) : CellTallies nD τ sig Unit := ∑ i ∈ rem n, tallyAt (recvCell (fwd c i) i) () N
def O₀ (c : Dev nD) : CellTallies nD τ sig Unit := OB c 0 + OR c 0

theorem OB_step (c : Dev nD) (i : Fin 31) : OB c i.val = OB c (i.val + 1) + tallyAt (barCell (fwd c i)) () 1 := by
  unfold OB; rw [rem_step, Finset.sum_insert (rem_not i), add_comm]
theorem OR_step (c : Dev nD) (i : Fin 31) : OR c i.val = OR c (i.val + 1) + tallyAt (recvCell (fwd c i) i) () N := by
  unfold OR; rw [rem_step, Finset.sum_insert (rem_not i), add_comm]
theorem OB_all (c : Dev nD) : OB c 31 = 0 := by unfold OB; rw [rem_all, Finset.sum_empty]
theorem OR_all (c : Dev nD) : OR c 31 = 0 := by unfold OR; rw [rem_all, Finset.sum_empty]

theorem tally_sum_apply (s : Finset (Fin 31)) (f : Fin 31 → GSem nD τ sig) (k : ℕ) (g : GSem nD τ sig) :
    (∑ i ∈ s, tallyAt (f i) () k : CellTallies nD τ sig Unit) g () = ∑ i ∈ s, if g = f i then k else 0 := by
  rw [Finset.sum_apply, Finsupp.finset_sum_apply]
  refine Finset.sum_congr rfl fun i _ => ?_
  rw [tallyAt_apply]
  exact if_congr ⟨fun h => h.1, fun h => ⟨h, rfl⟩⟩ rfl rfl

theorem tally_sum_pos {s : Finset (Fin 31)} {f : Fin 31 → GSem nD τ sig} {k : ℕ} {g : GSem nD τ sig} {u : Unit}
    (h : 0 < (∑ i ∈ s, tallyAt (f i) () k : CellTallies nD τ sig Unit) g u) : ∃ i, g = f i := by
  cases u
  rw [tally_sum_apply] at h
  by_contra hn
  rw [not_exists] at hn
  rw [Finset.sum_congr rfl fun i _ => if_neg (hn i), Finset.sum_const_zero] at h
  exact Nat.lt_irrefl 0 h

theorem O₀_pos {c : Dev nD} {g : GSem nD τ sig} {u : Unit} (h : 0 < O₀ c g u) :
    (∃ i, g = barCell (fwd c i)) ∨ ∃ i, g = recvCell (fwd c i) i := by
  unfold O₀ at h
  rw [Pi.add_apply, Finsupp.add_apply] at h
  rcases Nat.add_pos_iff_pos_or_pos.mp h with h | h
  · exact Or.inl (tally_sum_pos h)
  · exact Or.inr (tally_sum_pos h)

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma s => if 38 ≤ (s : Fin 70).val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := rfl
theorem lv_recv (c : Dev nD) (i : Fin 31) (u) : lv (recvCell c i) u = 2 := if_pos (dsem_true_ge _)

omit [FloatOps F] in
theorem mayWait_stage (c : Dev nD) (q : DmaSem sig) (hq : ¬ 38 ≤ (q : Fin 70).val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by rw [Finset.mem_singleton.mp hp]; exact le_of_eq (if_neg hq))
      (fun g u hg => by
        rcases O₀_pos hg with ⟨i, rfl⟩ | ⟨i, rfl⟩
        · rw [lv_bar]; decide
        · rw [lv_recv]; decide)
  · rw [MayWait_zero]; iintro -; iempintro

omit [FloatOps F] in
/-- At its barrier wait a device owes receive credits only. -/
theorem mayWait_bar (c : Dev nD) : (levAts L lv : sProp 𝕄) ⊢ MayWait (c : Thread nD τ) (.reg barS.sem) () (OR c 0) :=
  MayOwe.of_cut (L := L) (lev := lv) 1 (fun p hp => by rw [Finset.mem_singleton.mp hp, L_tc]; exact Finset.mem_singleton_self _)
    (fun g u hg => by obtain ⟨i, rfl⟩ := tally_sum_pos hg; exact Finset.mem_singleton_self _)
    (fun p hp => by rw [Finset.mem_singleton.mp hp]; exact le_refl _)
    (fun g u hg => by obtain ⟨i, rfl⟩ := tally_sum_pos hg; rw [lv_recv]; decide)

/-! ## The ghost state of one device -/

/-- Every cell's invariant, and that every cell has reached round 0. -/
def records (K : Dev nD × CK → ℕ) : sProp 𝕄 :=
  iprop((bigSep Finset.univ fun ck : Dev nD × CK => cellInv ER (exRd m) (K ck) (kcell ck))
    ∗ bigSep Finset.univ fun ck : Dev nD × CK => reached ER (kcell ck) 0)

instance records_persistent (K : Dev nD × CK → ℕ) : BI.Persistent (records m K) := by unfold records; infer_instance

theorem inv_at' (K : Dev nD × CK → ℕ) (ck : Dev nD × CK) :
    (bigSep Finset.univ fun ck : Dev nD × CK => (cellInv ER (exRd m) (K ck) (kcell ck) : sProp 𝕄)) ⊢ cellInv ER (exRd m) (K ck) (kcell ck) :=
  bigSep_elim (Finset.mem_univ ck)
omit [FloatOps F] in
theorem reached_at' (ck : Dev nD × CK) :
    (bigSep Finset.univ fun ck : Dev nD × CK => (reached ER (kcell ck) 0 : sProp 𝕄)) ⊢ reached ER (kcell ck) 0 :=
  bigSep_elim (Finset.mem_univ ck)

theorem inv_at (K : Dev nD × CK → ℕ) (ck : Dev nD × CK) : records m K ⊢ cellInv ER (exRd m) (K ck) (kcell ck) := by
  unfold records
  iintro ⟨H, -⟩
  iapply (inv_at' m K ck); iexact H
theorem reached_at (K : Dev nD × CK → ℕ) (ck : Dev nD × CK) : records m K ⊢ reached ER (kcell ck) 0 := by
  unfold records
  iintro ⟨-, H⟩
  iapply (reached_at' ck); iexact H

/-- Where device `c` stands at its own cells. -/
def posn (c : Dev nD) : sProp 𝕄 := bigSep Finset.univ fun k : CK => atPos ER (kcell (c, k)) 0 ∅ 0
/-- The duties device `c` pays, turn by turn: the barrier signal, the copy's landing, the copy's departure. -/
def payToks (c : Dev nD) : sProp 𝕄 :=
  iprop((bigSep Finset.univ fun i : Fin 31 => dutyTok ER (barCell (fwd c i)) 0 i)
    ∗ (bigSep Finset.univ fun i : Fin 31 => dutyTok ER (recvCell (fwd c i) i) 0 0)
    ∗ bigSep Finset.univ fun i : Fin 31 => dutyTok ER (sendCell c i) 0 0)

def ghost (K : Dev nD × CK → ℕ) (c : Dev nD) : sProp 𝕄 := iprop(records m K ∗ posn c ∗ payToks c)

/-- The launch's credit for device `c`: its barrier's 31 units and what lands at each of its receive cells. -/
def creds (c : Dev nD) : sProp 𝕄 :=
  iprop(cred (tallyAt (barCell c) () 31) ∗ bigSep Finset.univ fun i : Fin 31 => cred (tallyAt (recvCell c i) () N))

def start (c : Dev nD) : sProp 𝕄 := iprop((∃ K, ghost m K c) ∗ creds c ∗ levAts L lv)

def scr (c : Dev nD) (f : (cc0_scratch0 : Ref sig .tc).ty.Contents (Elt F)) : sProp 𝕄 :=
  ((c : Thread nD τ).loc cc0_scratch0) ↦{fullShare} f

def Φ₀ (c : Dev nD) : sProp 𝕄 := iprop(start m c ∗ ∃ f, scr c f)
/-- After the body: the scratch gathered, every cell of the device closed with its counter at zero. -/
def Φ₁ (c : Dev nD) : sProp 𝕄 := iprop(scr c (gat m) ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stQ m c
    | ⟨1, _⟩ => stK m c
    | ⟨2, _⟩ => stV m c
    | ⟨3, _⟩ => stB m c
    | ⟨4, _⟩ => stL m c
    | ⟨5, _⟩ => outA m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## Rows of one scratch -/

omit [FloatOps F] in
/-- A conjunction over the devices: this device's part and the parts of the other 31, by turn. -/
theorem around (c : Dev nD) (Φ : Dev nD → sProp 𝕄) :
    bigSep Finset.univ Φ = iprop(Φ c ∗ bigSep Finset.univ fun i : Fin 31 => Φ (fwd c i)) := by
  rw [univ_around c, bigSep_insert, bigSep_map]
  · rfl
  · intro h
    obtain ⟨i, -, hi⟩ := Finset.mem_map.mp h
    exact fwd_ne c i hi

omit [FloatOps F] in
/-- The other 31 in the opposite order. -/
theorem turn_back (c : Dev nD) (Φ : Dev nD → sProp 𝕄) :
    (bigSep Finset.univ fun i : Fin 31 => Φ (bwd c i)) = bigSep Finset.univ fun i : Fin 31 => Φ (fwd c i) := by
  rw [bigSep_univ_equiv Fin.revPerm (fun i : Fin 31 => Φ (fwd c i))]
  exact bigSep_congr fun i _ => by rw [Fin.revPerm_apply, fwd_rev]

/-- The rows, as elements of one device's scratch. -/
def rowAt (d r : Dev nD) : Finset (Idx ((d : Thread nD τ).loc cc0_scratch0)) := row r

theorem rowAt_disjoint (d r r' : Dev nD) (h : r ≠ r') : Disjoint (rowAt d r) (rowAt d r') :=
  Finset.disjoint_left.mpr fun i hi hi' => Finset.disjoint_left.mp (row_disjoint r r' h) hi hi'

theorem rowAt_cover (d : Dev nD) : (Finset.univ : Finset (Dev nD)).biUnion (rowAt d) = Finset.univ :=
  Finset.eq_univ_iff_forall.mpr fun i =>
    Finset.mem_biUnion.mpr ⟨(i : S32x16x16x66.Idx) 0, Finset.mem_univ _, (mem_row _ _).mpr rfl⟩

omit [FloatOps F] in
theorem scr_rows (d : Dev nD) (f) : scr (F := F) d f = bigSep Finset.univ fun r : Dev nD => rowPts d r fullShare f := by
  have h : (((d : Thread nD τ).loc cc0_scratch0) ↦[(Finset.univ : Finset (Dev nD)).biUnion (rowAt d)]{fullShare} f : sProp 𝕄)
      = bigSep Finset.univ fun r : Dev nD => ((d : Thread nD τ).loc cc0_scratch0) ↦[rowAt d r]{fullShare} f :=
    pointsTo_biUnion (Finset.univ : Finset (Dev nD)) (rowAt d) (fun r _ r' _ h => rowAt_disjoint d r r' h)
  rw [rowAt_cover] at h
  exact h

end Cert.KernelIdeal.Pf
-- ==== Proof.Body.lean ====
/- The body of one device, run once at a symbolic device: five loops, each by an invariant over its turns. -/
module

public import proofs.«01_k».proof.Proof.Protocol

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A program run by device `c`, to `Q`. -/
abbrev WP (c : Dev nD) {α : Type} (p : Pg F α) (Q : α → sProp 𝕄) : sProp 𝕄 :=
  wp frame (wpE (defs₀ (F := F)) 𝒱₀ (c : Thread nD τ) none) Set.univ p Q

/-! ## Loops -/

theorem wp_turns (c : Dev nD) {N : Nat} (f : Fin N → Pg F PUnit) (Inv : Nat → sProp 𝕄)
    (h : ∀ i : Fin N, Inv i.val ⊢ WP c (f i) fun _ => Inv (i.val + 1)) :
    ∀ (n : Nat) (hn : n ≤ N), Inv (N - n) ⊢ WP c (turns f n hn) fun _ => Inv N
  | 0, _ => by
    show Inv (N - 0) ⊢ wp frame (wpE (defs₀ (F := F)) 𝒱₀ (c : Thread nD τ) none) Set.univ (.ret PUnit.unit) _
    rw [wp_ret, Nat.sub_zero]
    iintro H; imodintro; iexact H
  | n + 1, hn => by
    show _ ⊢ wp frame (wpE (defs₀ (F := F)) 𝒱₀ (c : Thread nD τ) none) Set.univ
      (f ⟨N - (n + 1), Nat.sub_lt (Nat.lt_of_lt_of_le (Nat.succ_pos n) hn) (Nat.succ_pos n)⟩ >>= fun _ => turns f n (Nat.le_of_succ_le hn)) _
    rw [wp_bind]
    refine (h ⟨N - (n + 1), Nat.sub_lt (Nat.lt_of_lt_of_le (Nat.succ_pos n) hn) (Nat.succ_pos n)⟩).trans (wp_mono _ _ _ fun _ => ?_)
    have e : N - (n + 1) + 1 = N - n := by omega
    show Inv (N - (n + 1) + 1) ⊢ _
    rw [e]
    exact wp_turns c f Inv h n (Nat.le_of_succ_le hn)

/-- A loop and what comes after it. -/
theorem wp_loop (c : Dev nD) {N : Nat} (f : Fin N → Pg F PUnit) (Inv : Nat → sProp 𝕄)
    (h : ∀ i : Fin N, Inv i.val ⊢ WP c (f i) fun _ => Inv (i.val + 1)) {α : Type} (k : PUnit → Pg F α) (Q : α → sProp 𝕄) :
    iprop(Inv 0 ∗ (Inv N -∗ WP c (k ⟨⟩) Q)) ⊢ WP c (loop f >>= k) Q := by
  unfold WP
  rw [wp_bind]
  have h0 := wp_turns c f Inv h N (Nat.le_refl N)
  rw [Nat.sub_self] at h0
  iintro ⟨H, Hk⟩
  ihave H' := h0 $$ H
  iapply (wp_wand _ _ _) $$ H'
  iintro %a HN
  iapply Hk; iexact HN

variable (K : Dev nD × CK → ℕ) (c : Dev nD) (W : Waits sig Unit)

/-! ## The signals -/

def SigInv (n : Nat) : sProp 𝕄 :=
  iprop(records m K ∗ owes (c : Thread nD τ) (OB c n + OR c 0) W
    ∗ bigSep (rem n) fun i => iprop(dutyTok ER (barCell (fwd c i)) 0 i ∗ ∃ f, rowPts c (fwd c i) fullShare f))

theorem sig_owes (i : Fin 31) :
    OB c i.val + OR c 0 = OB c (i.val + 1) + OR c 0 + tallyAt (barCell (fwd c i)) () 1 := by
  rw [OB_step, add_right_comm]

theorem sig_step (i : Fin 31) : SigInv m K c W i.val ⊢ WP c (sigT c i) fun _ => SigInv m K c W (i.val + 1) := by
  unfold SigInv sigT semSignalWord
  rw [rem_peel, kdev_fwd]
  iintro ⟨#HR, HO, ⟨Ht, Hrow⟩, Hrest⟩
  iapply (Rounds.wp_signal 𝒱₀ ER (exRd m) (c : Thread nD τ) none (dst := (fwd c i : Thread nD τ)) (κ := K (fwd c i, .inl ()))
      (d := i) (by rw [duties_bar]; exact Finset.mem_univ _) ((amount_bar m (fwd c i) i).trans (by decide)) () (OB c (i.val + 1) + OR c 0)
      (sig_owes c i))
    $$ [HO Ht Hrow]
  · isplitr; · iapply (inv_at m K (fwd c i, .inl ())); iexact HR
    isplitl [HO]; · iexact HO
    isplitl [Ht]; · iexact Ht
    isplitl [Hrow]
    · rw [payload_bar]; unfold barPay; rw [bwd_fwd]; iexact Hrow
    iapply (reached_at m K (fwd c i, .inl ())); iexact HR
  iintro HO
  rw [wp_ret]; imodintro
  isplitr; · iexact HR
  isplitl [HO]; · iexact HO
  iexact Hrest

/-! ## The partial sums -/

abbrev pts (b : Ref sig .tc) (f : b.ty.Contents (Elt F)) : sProp 𝕄 := ((c : Thread nD τ).loc b) ↦{fullShare} f

def HeadInv (n : Nat) : sProp 𝕄 :=
  iprop(pts c cc0_stg0_0 (stQ m c) ∗ pts c cc0_stg1_0 (stK m c) ∗ pts c cc0_stg2_0 (stV m c)
    ∗ ∃ f, ⌜Upto m c (3 * n) f⌝ ∗ rowPts c c fullShare f)

set_option maxHeartbeats 1000000 in
theorem head_step (h : Fin 16) :
    HeadInv m c h.val ⊢ WP c (headT qM kM vM gM c (wOf m c) (pOf m c) h) fun _ => HeadInv m c (h.val + 1) := by
  unfold HeadInv headT rowPts
  simp only [Prog.lift, Prog.bind_op, Prog.bind_ret]
  iintro ⟨HQ, HK, HV, ⟨%f, %hf, Hs⟩⟩
  iapply (wp_load 𝒱₀ (c : Thread nD τ) none Set.univ (m := qM) (Finset.subset_univ _)) $$ HQ; iintro HQ
  iapply (wp_load 𝒱₀ (c : Thread nD τ) none Set.univ (m := kM) (Finset.subset_univ _)) $$ HK; iintro HK
  iapply (wp_load 𝒱₀ (c : Thread nD τ) none Set.univ (m := vM) (Finset.subset_univ _)) $$ HV; iintro HV
  iapply (wp_load 𝒱₀ (c : Thread nD τ) none Set.univ (m := gM) (rO_sub c h)) $$ Hs; iintro Hs
  iapply (wp_store 𝒱₀ (c : Thread nD τ) none Set.univ (m := gM) (r := rO c h) (Mk := Finset.univ) (rO_sub' c h)) $$ Hs; iintro Hs
  iapply (wp_load 𝒱₀ (c : Thread nD τ) none Set.univ (m := gM) (rM_sub c h)) $$ Hs; iintro Hs
  iapply (wp_store 𝒱₀ (c : Thread nD τ) none Set.univ (m := gM) (r := rM c h) (Mk := Finset.univ) (rM_sub' c h)) $$ Hs; iintro Hs
  iapply (wp_load 𝒱₀ (c : Thread nD τ) none Set.univ (m := gM) (rL_sub c h)) $$ Hs; iintro Hs
  iapply (wp_store 𝒱₀ (c : Thread nD τ) none Set.univ (m := gM) (r := rL c h) (Mk := Finset.univ) (rL_sub' c h)) $$ Hs; iintro Hs
  rw [wp_ret]; imodintro
  isplitl [HQ]; · iexact HQ
  isplitl [HK]; · iexact HK
  isplitl [HV]; · iexact HV
  iexists _
  isplitr [Hs]
  swap
  · iexact Hs
  ipureintro
  exact upto_l m c h _ (upto_m m c h _ (upto_o m c h f hf))

/-! ## The copies -/

def SendInv (n : Nat) : sProp 𝕄 :=
  iprop(records m K ∗ owes (c : Thread nD τ) (OR c n) W
    ∗ (bigSep (rem n) fun i => iprop(rowPts c c (lent i) (gat m) ∗ (∃ f, rowPts (fwd c i) c fullShare f)
        ∗ dutyTok ER (sendCell c i) 0 0 ∗ dutyTok ER (recvCell (fwd c i) i) 0 0))
    ∗ bigSep (don n) fun i => cred (tallyAt (sendCell c i) () N))

theorem rowPts_mine (d : Dev nD) (q) (f : (cc0_scratch0 : Ref sig .tc).ty.Contents (Elt F)) :
    rowPts d c q f = ((mine gM c).view.loc (d : Thread nD τ) ↦[(mine gM c).view.set]{q} f : sProp 𝕄) := by
  unfold rowPts; rw [← mine_set]

theorem landed_pts (d : Dev nD) (f : (cc0_scratch0 : Ref sig .tc).ty.Contents (Elt F)) :
    rowPts d c fullShare ((mine gM c).view.write (Elt F) f ((mine gM c).view.read (Elt F) (gat m)) Finset.univ)
      = rowPts d c fullShare (gat m) := by
  unfold rowPts
  exact pointsTo_congr fun i hi => landed m c f i hi

theorem credit_eq (i : Fin 31) : (mine gM c).view.amount (.dma (dsem true i.succ)) = N := rfl
theorem routes_fwd (i : Fin 31) : τ.routes (c : Thread nD τ) (fwd c i : Thread nD τ) = true := by routes
theorem send_gives (i : Fin 31) : ((mine gM c).view.loc (c : Thread nD τ) ↦[(mine gM c).view.set]{lent i} (gat m)) ⊢ (exRd m).payload (sendCell c i) 0 0 :=
    (by rw [payload_send]; unfold sendPay; rw [rowPts_mine])
theorem recv_gives (i : Fin 31) (f : (cc0_scratch0 : Ref sig .tc).ty.Contents (Elt F)) : ((mine gM c).view.loc (fwd c i : Thread nD τ) ↦[(mine gM c).view.set]{fullShare} ((mine gM c).view.write (Elt F) f ((mine gM c).view.read (Elt F) (gat m)) Finset.univ)) ⊢ (exRd m).payload (recvCell (fwd c i) i) 0 0 :=
    (by rw [payload_recv]; unfold recvPay; rw [bwd_fwd, ← landed_pts m c (fwd c i) f, rowPts_mine])
/-- One copy to the peer `fwd c i`, the peer and the two semaphores as the program names them. -/
theorem wp_send_row (i : Fin 31) (n : Dev nD) (hn : n = fwd c i) (s₁ s₂ : DmaSem sig) (h₁ : s₁ = dsem false i.succ) (h₂ : s₂ = dsem true i.succ)
    {hsc : (mine gM c).view.ref.isScScratch = false} {hsrc : (mine gM c).view.WordExact} {hdst : (mine gM c).view.WordExact}
    {hsem : DmaTarget.Typed .vmem (.dma s₂) (.remote (Dev.tc n : Thread nD τ) (mine gM c) (.dma s₁) hsc)}
    {α : Type} {Q : α → sProp 𝕄} {k : PUnit → Pg F α} (f : (cc0_scratch0 : Ref sig .tc).ty.Contents (Elt F)) :
    iprop(records m K ∗ rowPts c c (lent i) (gat m) ∗ rowPts (fwd c i) c fullShare f ∗ owes (c : Thread nD τ) (OR c i.val) W
        ∗ dutyTok ER (sendCell c i) 0 0 ∗ dutyTok ER (recvCell (fwd c i) i) 0 0)
      ⊢ iprop(((cred (tallyAt (sendCell c i) () N) ∗ owes (c : Thread nD τ) (OR c (i.val + 1)) W) -∗ WP c (k ⟨⟩) Q)
          -∗ WP c (.op (.enqueueDma (mine gM c) (.remote (Dev.tc n : Thread nD τ) (mine gM c) (.dma s₁) hsc) (.dma s₂) hsrc hdst hsem) k) Q) := by
  subst hn h₁ h₂
  rw [rowPts_mine, rowPts_mine]
  iintro ⟨#HR, Hs, Hd, HO, HtS, HtV⟩
  iapply (Rounds.wp_send_pointsTo 𝒱₀ ER (exRd m) (c : Thread nD τ) none (κ₁ := K (c, .inr (false, i.succ))) (κ₂ := K (fwd c i, .inr (true, i.succ)))
    (r₁ := 0) (r₂ := 0) (d₁ := 0) (d₂ := 0) (fd := f)
    (by rw [duties_send]; exact Finset.mem_singleton_self _) (by rw [duties_recv]; exact Finset.mem_singleton_self _)
    () () N (credit_eq c i) (amount_send m c i 0) (amount_recv m (fwd c i) i 0) (OR c (i.val + 1)) (OR_step c i) (W := W)
    (send_gives m c i)
    (recv_gives m c i f) (routes_fwd c i))
  isplitr; · iapply (inv_at m K (c, .inr (false, i.succ))); iexact HR
  isplitr; · iapply (inv_at m K (fwd c i, .inr (true, i.succ))); iexact HR
  isplitl [Hs]; · iexact Hs
  isplitl [Hd]; · iexact Hd
  isplitl [HO]; · iexact HO
  isplitl [HtS]; · iexact HtS
  isplitr; · iapply (reached_at m K (c, .inr (false, i.succ))); iexact HR
  isplitl [HtV]; · iexact HtV
  iapply (reached_at m K (fwd c i, .inr (true, i.succ))); iexact HR

set_option maxHeartbeats 1000000 in
theorem send_step (i : Fin 31) :
    SendInv m K c W i.val ⊢ WP c (sendT gM cc0_scratch1 cc0_scratch2 c i) fun _ => SendInv m K c W (i.val + 1) := by
  unfold SendInv sendT
  rw [rem_peel, don_push]
  simp only [Prog.lift]
  iintro ⟨#HR, HO, ⟨⟨Hs, ⟨%f, Hd⟩, HtS, HtV⟩, Hrest⟩, Hdone⟩
  iapply (wp_send_row m K c W i _ (kdev_fwd c i) _ _ (semAt_send i) (semAt_recv i) f) $$ [Hs Hd HO HtS HtV]
  · isplitr; · iexact HR
    isplitl [Hs]; · iexact Hs
    isplitl [Hd]; · iexact Hd
    isplitl [HO]; · iexact HO
    isplitl [HtS]; · iexact HtS
    iexact HtV
  iintro ⟨Hc, HO⟩
  unfold WP
  rw [wp_ret]; imodintro
  isplitr; · iexact HR
  isplitl [HO]; · iexact HO
  isplitl [Hrest]; · iexact Hrest
  isplitl [Hc]; · iexact Hc
  iexact Hdone

/-! ## The waits -/

def WaitInv (n : Nat) : sProp 𝕄 :=
  iprop(records m K ∗ (∃ W, owes (c : Thread nD τ) 0 W)
    ∗ (bigSep (rem n) fun i => iprop(cred (tallyAt (sendCell c i) () N) ∗ cred (tallyAt (recvCell c i) () N)
        ∗ atPos ER (sendCell c i) 0 ∅ 0 ∗ atPos ER (recvCell c i) 0 ∅ 0))
    ∗ bigSep (don n) fun i => iprop(rowPts c c (lent i) (gat m) ∗ rowPts c (bwd c i) fullShare (gat m)
        ∗ atPos ER (sendCell c i) 1 ∅ 0 ∗ atPos ER (recvCell c i) 1 ∅ 0))

set_option maxHeartbeats 1000000 in
theorem wait_step (i : Fin 31) :
    WaitInv m K c i.val ⊢ WP c (waitT gM cc0_scratch1 cc0_scratch2 c i) fun _ => WaitInv m K c (i.val + 1) := by
  unfold WaitInv waitT
  rw [rem_peel, don_push]
  simp only [Prog.lift, Prog.bind_op, Prog.bind_ret]
  rw [semAt_send, semAt_recv]
  iintro ⟨#HR, ⟨%W, HO⟩, ⟨⟨HcS, HcV, HaS, HaV⟩, Hrest⟩, Hdone⟩
  iapply (Rounds.wp_wait_rest_token 𝒱₀ ER (exRd m) (c : Thread nD τ) none (κ := K (c, .inr (false, i.succ)))
      (wpE_waitDma2_eq 𝒱₀ (c : Thread nD τ) none Set.univ) (Set.mem_univ _) () (O := 0) (W := W) (R := 0) (m := 0) (T := ∅)
      (by rw [Nat.zero_add, expect_send])) $$ [HcS HO HaS]
  · isplitr; · iapply (inv_at m K (c, .inr (false, i.succ))); iexact HR
    isplitl [HcS]; · iexact HcS
    isplitl [HO]; · iexact HO
    isplitr; · rw [MayWait_zero]; iempintro
    iexact HaS
  iintro ⟨HO, HaS, -, Hp⟩
  ihave Hs := (Entails.of_eq (rest_send m c i)) $$ Hp
  iapply (Rounds.wp_wait_rest_token 𝒱₀ ER (exRd m) (c : Thread nD τ) none (κ := K (c, .inr (true, i.succ)))
      (wpE_waitDma2_eq 𝒱₀ (c : Thread nD τ) none Set.univ) (Set.mem_univ _) () (O := 0) (R := 0) (m := 0) (T := ∅)
      (by rw [Nat.zero_add, expect_recv])) $$ [HcV HO HaV]
  · isplitr; · iapply (inv_at m K (c, .inr (true, i.succ))); iexact HR
    isplitl [HcV]; · iexact HcV
    isplitl [HO]; · iexact HO
    isplitr; · rw [MayWait_zero]; iempintro
    iexact HaV
  iintro ⟨HO, HaV, -, Hp⟩
  ihave Hv := (Entails.of_eq (rest_recv m c i)) $$ Hp
  rw [wp_ret]; imodintro
  isplitr; · iexact HR
  isplitl [HO]; · iexists _; iexact HO
  isplitl [Hrest]; · iexact Hrest
  isplitr [Hdone]
  · unfold sendPay recvPay
    isplitl [Hs]; · iexact Hs
    isplitl [Hv]; · iexact Hv
    isplitl [HaS]; · iexact HaS
    iexact HaV
  iexact Hdone

/-! ## The merge -/

def MergeInv (n : Nat) : sProp 𝕄 :=
  iprop(scr c (gat m) ∗ ∃ f, ⌜OutUpto m n f⌝ ∗ pts c cc0_stg5_0 f)

set_option maxHeartbeats 1000000 in
theorem merge_step (h : Fin 16) : MergeInv m c h.val ⊢ WP c (mergeT oM gM h) fun _ => MergeInv m c (h.val + 1) := by
  unfold MergeInv mergeT scr
  simp only [Prog.lift, Prog.bind_op, Prog.bind_ret]
  iintro ⟨Hs, ⟨%f, %hf, Ho⟩⟩
  iapply (wp_load 𝒱₀ (c : Thread nD τ) none Set.univ (m := gM) (Finset.subset_univ _)) $$ Hs; iintro Hs
  iapply (wp_load 𝒱₀ (c : Thread nD τ) none Set.univ (m := gM) (Finset.subset_univ _)) $$ Hs; iintro Hs
  iapply (wp_load 𝒱₀ (c : Thread nD τ) none Set.univ (m := gM) (Finset.subset_univ _)) $$ Hs; iintro Hs
  iapply (wp_load 𝒱₀ (c : Thread nD τ) none Set.univ (m := oM) (Finset.subset_univ _)) $$ Ho; iintro Ho
  iapply (wp_store 𝒱₀ (c : Thread nD τ) none Set.univ (m := oM) (r := rQ h) (Mk := Finset.univ) (Finset.subset_univ _)) $$ Ho; iintro Ho
  rw [wp_ret]; imodintro
  isplitl [Hs]; · iexact Hs
  iexists _
  isplitr [Ho]
  swap
  · iexact Ho
  ipureintro
  exact outUpto_step m h f hf

end Cert.KernelIdeal.Pf
-- ==== Proof.Sound.lean ====
/- The body of one device from what the launch leaves it to what the exit needs: the loops of `Body` joined. -/
module

public import proofs.«01_k».proof.Proof.Body

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ) (c : Dev nD) (W : Waits sig Unit)

/-! ## The cells of one device, sorted -/

omit [FloatOps F] in
theorem bigSep_slots (Φ : Fin 32 → sProp 𝕄) : bigSep Finset.univ Φ = iprop(Φ 0 ∗ bigSep Finset.univ fun i : Fin 31 => Φ i.succ) := by
  rw [Fin.univ_succ, Finset.cons_eq_insert, bigSep_insert, bigSep_map]
  · rfl
  · intro h
    obtain ⟨i, -, hi⟩ := Finset.mem_map.mp h
    exact Fin.succ_ne_zero i hi

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- The barrier cell, then slot 0 and the 31 slots in use of each array. -/
theorem ck_split (Φ : CK → sProp 𝕄) : bigSep Finset.univ Φ =
    iprop(Φ (.inl ()) ∗ (Φ (.inr (false, 0)) ∗ bigSep Finset.univ fun i : Fin 31 => Φ (.inr (false, i.succ)))
      ∗ (Φ (.inr (true, 0)) ∗ bigSep Finset.univ fun i : Fin 31 => Φ (.inr (true, i.succ)))) := by
  rw [bigSep_univ_sum, bigSep_univ_of_subsingleton (), bigSep_univ_prod, bigSep_bool, bigSep_slots, bigSep_slots]
  rfl

/-! ## Between the loops -/

omit [FloatOps F] in
theorem some_row (d r : Dev nD) (f : (cc0_scratch0 : Ref sig .tc).ty.Contents (Elt F)) :
    (rowPts d r fullShare f : sProp 𝕄) ⊢ iprop(∃ f, rowPts d r fullShare f) := by
  iintro H; iexists f; iexact H
omit [FloatOps F] in
theorem some_rows (f : (cc0_scratch0 : Ref sig .tc).ty.Contents (Elt F)) :
    (bigSep Finset.univ fun i : Fin 31 => (rowPts c (fwd c i) fullShare f : sProp 𝕄)) ⊢ bigSep Finset.univ fun i : Fin 31 => iprop(∃ f, rowPts c (fwd c i) fullShare f) :=
  bigSep_mono fun i _ => some_row c (fwd c i) f

omit [FloatOps F] in
theorem enter (f : (cc0_scratch0 : Ref sig .tc).ty.Contents (Elt F)) :
    iprop(scr c f ∗ bigSep Finset.univ fun i : Fin 31 => dutyTok ER (barCell (fwd c i)) 0 i)
      ⊢ (iprop(rowPts c c fullShare f ∗ bigSep (rem 0) fun i => iprop(dutyTok ER (barCell (fwd c i)) 0 i ∗ ∃ f, rowPts c (fwd c i) fullShare f)) : sProp 𝕄) := by
  rw [scr_rows, around c fun r => rowPts c r fullShare f, rem_zero, bigSep_sep']
  iintro ⟨⟨H, Hr⟩, Ht⟩
  isplitl [H]; · iexact H
  isplitl [Ht]; · iexact Ht
  iapply (some_rows c f); iexact Hr

omit [FloatOps F] in
theorem barPay_turn : (bigSep Finset.univ fun i : Fin 31 => (barPay c i : sProp 𝕄)) = bigSep Finset.univ fun i : Fin 31 => iprop(∃ f, rowPts (fwd c i) c fullShare f) :=
  turn_back c fun d => iprop(∃ f, rowPts d c fullShare f)

theorem to_send :
    iprop(rowPts c c fullShare (gat m) ∗ (bigSep Finset.univ fun i : Fin 31 => barPay c i)
        ∗ (bigSep Finset.univ fun i : Fin 31 => dutyTok ER (sendCell c i) 0 0) ∗ bigSep Finset.univ fun i : Fin 31 => dutyTok ER (recvCell (fwd c i) i) 0 0)
      ⊢ (iprop(rowPts c c (Transfers.shareDrop fullShare 31) (gat m)
          ∗ (bigSep (rem 0) fun i => iprop(rowPts c c (lent i) (gat m) ∗ (∃ f, rowPts (fwd c i) c fullShare f)
            ∗ dutyTok ER (sendCell c i) 0 0 ∗ dutyTok ER (recvCell (fwd c i) i) 0 0)) ∗ bigSep (don 0) fun i => cred (tallyAt (sendCell c i) () N)) : sProp 𝕄) := by
  rw [rem_zero, don_zero, bigSep_empty, bigSep_sep', bigSep_sep', bigSep_sep', barPay_turn]
  iintro ⟨H, Hb, HtS, HtV⟩
  ihave H := (show (rowPts c c fullShare (gat m) : sProp 𝕄)
    ⊢ iprop(rowPts c c (Transfers.shareDrop fullShare 31) (gat m) ∗ bigSep Finset.univ fun i : Fin 31 => rowPts c c (lent i) (gat m)) from
      Transfers.pointsTo_toks_split fullShare 31) $$ H
  icases H with ⟨H0, Hl⟩
  isplitl [H0]; · iexact H0
  isplitl [Hl Hb HtS HtV]
  · isplitl [Hl]; · iexact Hl
    isplitl [Hb]; · iexact Hb
    isplitl [HtS]; · iexact HtS
    iexact HtV
  iempintro

omit [FloatOps F] in
theorem to_wait :
    iprop((bigSep (don 31) fun i => cred (tallyAt (sendCell c i) () N)) ∗ (bigSep Finset.univ fun i : Fin 31 => cred (tallyAt (recvCell c i) () N))
        ∗ (bigSep Finset.univ fun i : Fin 31 => atPos ER (sendCell c i) 0 ∅ 0) ∗ bigSep Finset.univ fun i : Fin 31 => atPos ER (recvCell c i) 0 ∅ 0)
      ⊢ (bigSep (rem 0) fun i => iprop(cred (tallyAt (sendCell c i) () N) ∗ cred (tallyAt (recvCell c i) () N)
        ∗ atPos ER (sendCell c i) 0 ∅ 0 ∗ atPos ER (recvCell c i) 0 ∅ 0) : sProp 𝕄) := by
  rw [rem_zero, don_all, bigSep_sep', bigSep_sep', bigSep_sep']

theorem gathered :
    iprop(rowPts c c (Transfers.shareDrop fullShare 31) (gat m)
        ∗ bigSep (don 31) fun i => iprop(rowPts c c (lent i) (gat m) ∗ rowPts c (bwd c i) fullShare (gat m)
          ∗ atPos ER (sendCell c i) 1 ∅ 0 ∗ atPos ER (recvCell c i) 1 ∅ 0))
      ⊢ (iprop(scr c (gat m) ∗ (bigSep Finset.univ fun i : Fin 31 => atPos ER (sendCell c i) 1 ∅ 0)
          ∗ bigSep Finset.univ fun i : Fin 31 => atPos ER (recvCell c i) 1 ∅ 0) : sProp 𝕄) := by
  rw [don_all, bigSep_sep', bigSep_sep', bigSep_sep', turn_back c fun d => rowPts c d fullShare (gat m),
    scr_rows, around c fun r => rowPts c r fullShare (gat m)]
  iintro ⟨H0, Hl, Hv, HaS, HaV⟩
  ihave H := (show iprop(rowPts c c (Transfers.shareDrop fullShare 31) (gat m) ∗ bigSep Finset.univ fun i : Fin 31 => rowPts c c (lent i) (gat m))
    ⊢ (rowPts c c fullShare (gat m) : sProp 𝕄) from Transfers.pointsTo_toks_join fullShare 31) $$ [H0 Hl]
  · isplitl [H0]; · iexact H0
    iexact Hl
  isplitl [H Hv]
  · isplitl [H]; · iexact H
    iexact Hv
  isplitl [HaS]; · iexact HaS
  iexact HaV

/-! ## The cells close -/

theorem close_one (k : CK) (R : ℕ) (hR : ∀ r, R ≤ r → (exRd (F := F) m).duties (kcell (c, k)) r = ∅) :
    iprop(records m K ∗ atPos ER (kcell (c, k)) R ∅ 0) ⊢ |={Set.univ}=> (semVal (kcell (c, k)) 0 : sProp 𝕄) := by
  iintro ⟨#HR, Ha⟩
  iapply (Rounds.cell_close ER (exRd m) (Set.mem_univ (K (c, k))) (fun h => h) (R := R) hR)
  isplitr; · iapply (inv_at m K (c, k)); iexact HR
  iexact Ha

theorem close_many (b : Bool) :
    iprop(records m K ∗ bigSep Finset.univ fun i : Fin 31 => atPos ER (kcell (c, .inr (b, i.succ))) 1 ∅ 0)
      ⊢ |={Set.univ}=> (bigSep Finset.univ fun i : Fin 31 => semVal (kcell (c, .inr (b, i.succ))) 0 : sProp 𝕄) :=
  (bigSep_with_persistent (Ψ := fun i : Fin 31 => iprop(|={Set.univ}=> semVal (kcell (c, .inr (b, i.succ))) 0))
    fun i _ => close_one m K c (.inr (b, i.succ)) 1 (duties_later m _)).trans (bigSep_fupd _ _)

theorem close_all :
    iprop(records m K ∗ atPos ER (barCell c) 1 ∅ 0 ∗ atPos ER (kcell (c, .inr (false, 0))) 0 ∅ 0 ∗ atPos ER (kcell (c, .inr (true, 0))) 0 ∅ 0
        ∗ (bigSep Finset.univ fun i : Fin 31 => atPos ER (sendCell c i) 1 ∅ 0) ∗ bigSep Finset.univ fun i : Fin 31 => atPos ER (recvCell c i) 1 ∅ 0)
      ⊢ |={Set.univ}=> (bigSep Finset.univ fun k : CK => semVal (kcell (c, k)) 0 : sProp 𝕄) := by
  rw [ck_split]
  iintro ⟨#HR, HaB, H0, H1, HaS, HaV⟩
  imod (close_one m K c (.inl ()) 1 (duties_later m _)) $$ [HaB] with HzB
  · isplitr; · iexact HR
    iexact HaB
  imod (close_one m K c (.inr (false, 0)) 0 (duties_zero m c false)) $$ [H0] with Hz0
  · isplitr; · iexact HR
    iexact H0
  imod (close_one m K c (.inr (true, 0)) 0 (duties_zero m c true)) $$ [H1] with Hz1
  · isplitr; · iexact HR
    iexact H1
  imod (close_many m K c false) $$ [HaS] with HzS
  · isplitr; · iexact HR
    iexact HaS
  imod (close_many m K c true) $$ [HaV] with HzV
  · isplitr; · iexact HR
    iexact HaV
  imodintro
  isplitl [HzB]; · iexact HzB
  isplitl [Hz0 HzS]
  · isplitl [Hz0]; · iexact Hz0
    iexact HzS
  isplitl [Hz1]; · iexact Hz1
  iexact HzV

/-! ## The body -/

/-- The last loop of a program. -/
theorem wp_loop_end {N : Nat} (f : Fin N → Pg F PUnit) (Inv : Nat → sProp 𝕄)
    (h : ∀ i : Fin N, Inv i.val ⊢ WP c (f i) fun _ => Inv (i.val + 1)) (Q : PUnit → sProp 𝕄) :
    iprop(Inv 0 ∗ (Inv N -∗ Q ⟨⟩)) ⊢ WP c (loop f) Q := by
  have h0 := wp_turns c f Inv h N (Nat.le_refl N)
  rw [Nat.sub_self] at h0
  iintro ⟨H, Hk⟩
  ihave H' := h0 $$ H
  iapply (wp_wand _ _ _) $$ H'
  iintro %a HN
  iapply Hk; iexact HN

abbrev theBody : Pg F PUnit := body qM kM vM bM lM oM gM cc0_scratch1 cc0_scratch2

set_option maxHeartbeats 2000000 in
theorem sound_body (f0 : (cc0_scratch0 : Ref sig .tc).ty.Contents (Elt F)) (g5 : (cc0_stg5_0 : Ref sig .tc).ty.Contents (Elt F)) (Q : PUnit → sProp 𝕄) :
    iprop((ghost m K c ∗ creds c ∗ levAts L lv ∗ scr c f0) ∗ owes (c : Thread nD τ) (O₀ c) W
        ∗ pts c cc0_stg0_0 (stQ m c) ∗ pts c cc0_stg1_0 (stK m c) ∗ pts c cc0_stg2_0 (stV m c) ∗ pts c cc0_stg3_0 (stB m c) ∗ pts c cc0_stg4_0 (stL m c)
        ∗ pts c cc0_stg5_0 g5
        ∗ ((Φ₁ m c ∗ (∃ W, owes (c : Thread nD τ) 0 W)
            ∗ pts c cc0_stg0_0 (stQ m c) ∗ pts c cc0_stg1_0 (stK m c) ∗ pts c cc0_stg2_0 (stV m c) ∗ pts c cc0_stg3_0 (stB m c) ∗ pts c cc0_stg4_0 (stL m c)
            ∗ pts c cc0_stg5_0 (outA m)) -∗ Q ⟨⟩))
      ⊢ WP c theBody Q := by
  unfold theBody body semWaitWord WP
  simp only [Prog.lift, Prog.bind_op, Prog.bind_ret, wp_deviceId]
  unfold ghost posn payToks creds
  rw [ck_split]
  iintro ⟨⟨⟨#HR, ⟨HaB, ⟨H0, HaS⟩, ⟨H1, HaV⟩⟩, ⟨HtB, HtV, HtS⟩⟩, ⟨HcB, HcV⟩, #Hlev, Hscr⟩, HO, HQ, HK, HV, HB, HL, Hout, Hk⟩
  ihave H := (enter c f0) $$ [Hscr HtB]
  · isplitl [Hscr]; · iexact Hscr
    iexact HtB
  icases H with ⟨Hrow, Hsig⟩
  -- the signals
  iapply (wp_loop c (sigT c) (SigInv m K c W) (sig_step m K c W))
  isplitl [HO Hsig]
  · unfold SigInv
    isplitr; · iexact HR
    isplitl [HO]; · iexact HO
    iexact Hsig
  unfold SigInv
  rw [OB_all, zero_add]
  iintro ⟨-, HO, -⟩
  -- the wait on its own barrier
  unfold WP
  iapply (Rounds.wp_wait_rest_token 𝒱₀ ER (exRd m) (c : Thread nD τ) none (κ := K (c, .inl ()))
      (wpE_semWait_eq 𝒱₀ (c : Thread nD τ) none Set.univ) (Set.mem_univ _) () (O := OR c 0) (W := W) (R := 0) (m := 0) (T := ∅)
      (by rw [expect_bar]; decide)) $$ [HcB HO HaB]
  · isplitr; · iapply (inv_at m K (c, .inl ())); iexact HR
    isplitl [HcB]; · iexact HcB
    isplitl [HO]; · iexact HO
    isplitr; · iapply (mayWait_bar c); iexact Hlev
    iexact HaB
  iintro ⟨HO, HaB, -, Hp⟩
  ihave Hp := (Entails.of_eq (rest_bar m c)) $$ Hp
  -- the table and the lengths
  iapply (wp_load 𝒱₀ (c : Thread nD τ) none Set.univ (m := bM) (Finset.subset_univ _)) $$ HB; iintro HB
  iapply (wp_load 𝒱₀ (c : Thread nD τ) none Set.univ (m := lM) (Finset.subset_univ _)) $$ HL; iintro HL
  -- the partial sums
  iapply (wp_loop c _ (HeadInv m c) (head_step m c))
  isplitl [HQ HK HV Hrow]
  · unfold HeadInv
    isplitl [HQ]; · iexact HQ
    isplitl [HK]; · iexact HK
    isplitl [HV]; · iexact HV
    iexists f0
    isplitr; · ipureintro; exact fun i _ h => absurd h (Nat.not_lt_zero _)
    iexact Hrow
  unfold HeadInv
  iintro ⟨HQ, HK, HV, ⟨%f1, %hf1, Hrow⟩⟩
  ihave Hrow := (Entails.of_eq (show (rowPts c c fullShare f1 : sProp 𝕄) = rowPts c c fullShare (gat m) from
    pointsTo_congr fun i hi => upto_all m c f1 hf1 i hi)) $$ Hrow
  ihave H := (to_send m c) $$ [Hrow Hp HtS HtV]
  · isplitl [Hrow]; · iexact Hrow
    isplitl [Hp]; · iexact Hp
    isplitl [HtS]; · iexact HtS
    iexact HtV
  icases H with ⟨Hrow, Hsend⟩
  -- the copies
  iapply (wp_loop c _ (SendInv m K c (insert (SemLoc.reg barS.sem, ()) W)) (send_step m K c _))
  isplitl [HO Hsend]
  · unfold SendInv
    isplitr; · iexact HR
    isplitl [HO]; · iexact HO
    iexact Hsend
  unfold SendInv
  rw [OR_all]
  iintro ⟨-, HO, -, HcS⟩
  ihave H := (to_wait c) $$ [HcS HcV HaS HaV]
  · isplitl [HcS]; · iexact HcS
    isplitl [HcV]; · iexact HcV
    isplitl [HaS]; · iexact HaS
    iexact HaV
  -- the waits
  iapply (wp_loop c _ (WaitInv m K c) (wait_step m K c))
  isplitl [HO H]
  · unfold WaitInv
    isplitr; · iexact HR
    isplitl [HO]; · iexists _; iexact HO
    isplitl [H]; · iexact H
    rw [don_zero, bigSep_empty]; iempintro
  unfold WaitInv
  iintro ⟨-, HO, -, Hdone⟩
  ihave H := (gathered m c) $$ [Hrow Hdone]
  · isplitl [Hrow]; · iexact Hrow
    iexact Hdone
  icases H with ⟨Hscr, HaS, HaV⟩
  -- the cells close
  unfold WP
  imod (close_all m K c) $$ [HaB H0 H1 HaS HaV] with Hz
  · isplitr; · iexact HR
    isplitl [HaB]; · iexact HaB
    isplitl [H0]; · iexact H0
    isplitl [H1]; · iexact H1
    isplitl [HaS]; · iexact HaS
    iexact HaV
  -- the merge
  iapply (wp_loop_end c _ (MergeInv m c) (merge_step m c))
  isplitl [Hscr Hout]
  · unfold MergeInv
    isplitl [Hscr]; · iexact Hscr
    iexists g5
    isplitr; · ipureintro; exact fun i h => absurd h (Nat.not_lt_zero _)
    iexact Hout
  unfold MergeInv
  iintro ⟨Hscr, ⟨%f2, %hf2, Hout⟩⟩
  have e := outUpto_all m f2 hf2
  subst e
  iapply Hk
  unfold Φ₁
  isplitl [Hscr Hz]
  · isplitl [Hscr]; · iexact Hscr
    iexact Hz
  isplitl [HO]; · iexact HO
  isplitl [HQ]; · iexact HQ
  isplitl [HK]; · iexact HK
  isplitl [HV]; · iexact HV
  isplitl [HB]; · iexact HB
  isplitl [HL]; · iexact HL
  iexact Hout

/-! ## The obligation of the launch -/

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem stg_pts (b : Ref sig .tc) (X : b.ty.Contents (Elt F)) : (stg c b X : sProp 𝕄) ⊢ pts c b X := by
  iintro ⟨%f, %h, H⟩
  subst h; iexact H
omit [FloatOps F] in
theorem pts_stg (b : Ref sig .tc) (X : b.ty.Contents (Elt F)) : (pts c b X : sProp 𝕄) ⊢ stg c b X := by
  iintro H
  iexists X
  isplitr; · ipureintro; rfl
  iexact H

theorem before_0 (d) : (dats m ρ 0 c).before (0 : Fin 6) t0_0 d = stQ m c := by unfold Dat.before; rw [if_pos (fetch0_0 t0_0)]; rfl
theorem before_1 (d) : (dats m ρ 0 c).before (1 : Fin 6) t0_0 d = stK m c := by unfold Dat.before; rw [if_pos (fetch0_1 t0_0)]; rfl
theorem before_2 (d) : (dats m ρ 0 c).before (2 : Fin 6) t0_0 d = stV m c := by unfold Dat.before; rw [if_pos (fetch0_2 t0_0)]; rfl
theorem before_3 (d) : (dats m ρ 0 c).before (3 : Fin 6) t0_0 d = stB m c := by unfold Dat.before; rw [if_pos (fetch0_3 t0_0)]; rfl
theorem before_4 (d) : (dats m ρ 0 c).before (4 : Fin 6) t0_0 d = stL m c := by unfold Dat.before; rw [if_pos (fetch0_4 t0_0)]; rfl

def bodyPre : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost : sProp 𝕄 :=
  iprop(Φ₁ m c ∗ (dats m ρ 0 c).owesAt () t0_0.succ ∗ stg c cc0_stg0_0 (stQ m c) ∗ stg c cc0_stg1_0 (stK m c) ∗ stg c cc0_stg2_0 (stV m c)
    ∗ stg c cc0_stg3_0 (stB m c) ∗ stg c cc0_stg4_0 (stL m c) ∗ stg c cc0_stg5_0 (outA m))

theorem body_pre_post : bodyPre m ρ c ⊢ WP c theBody fun _ => bodyPost m ρ c := by
  unfold bodyPre bodyPost Φ₀ start Dat.owesAt Pipeline.owesWithin
  simp only [before_0, before_1, before_2, before_3, before_4]
  rw [show (dats m ρ 0 c).owed t0_0.castSucc = O₀ c from rfl, show (dats m ρ 0 c).owed t0_0.succ = 0 from rfl]
  iintro ⟨⟨⟨⟨%K, Hg⟩, Hc, Hlev⟩, ⟨%f0, Hscr⟩⟩, ⟨%W, %hW, HO⟩, ⟨%_, HQ⟩, ⟨%_, HK⟩, ⟨%_, HV⟩, ⟨%_, HB⟩, ⟨%_, HL⟩, ⟨%d5, %g5, %hg5, Hout⟩⟩
  iapply (sound_body m K c W f0 g5 _)
  isplitl [Hg Hc Hlev Hscr]
  · isplitl [Hg]; · iexact Hg
    isplitl [Hc]; · iexact Hc
    isplitl [Hlev]; · iexact Hlev
    iexact Hscr
  isplitl [HO]; · iexact HO
  isplitl [HQ]; · iapply (stg_pts c cc0_stg0_0 _); iexact HQ
  isplitl [HK]; · iapply (stg_pts c cc0_stg1_0 _); iexact HK
  isplitl [HV]; · iapply (stg_pts c cc0_stg2_0 _); iexact HV
  isplitl [HB]; · iapply (stg_pts c cc0_stg3_0 _); iexact HB
  isplitl [HL]; · iapply (stg_pts c cc0_stg4_0 _); iexact HL
  isplitl [Hout]; · iexact Hout
  iintro ⟨HΦ, ⟨%W', HO⟩, HQ, HK, HV, HB, HL, Hout⟩
  isplitl [HΦ]; · iexact HΦ
  isplitl [HO]
  · iexists W'
    isplitr; · ipureintro; exact fun _ _ => Or.inl trivial
    iexact HO
  isplitl [HQ]; · iapply (pts_stg c cc0_stg0_0 _); iexact HQ
  isplitl [HK]; · iapply (pts_stg c cc0_stg1_0 _); iexact HK
  isplitl [HV]; · iapply (pts_stg c cc0_stg2_0 _); iexact HV
  isplitl [HB]; · iapply (pts_stg c cc0_stg3_0 _); iexact HB
  isplitl [HL]; · iapply (pts_stg c cc0_stg4_0 _); iexact HL
  iapply (pts_stg c cc0_stg5_0 _); iexact Hout

set_option maxRecDepth 1000000 in
/-- What the launch asks of the body on device `c`. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) cc0_scratch1 cc0_scratch2) (fun _ => bodyPost m ρ c)
  rw [body_eq]
  exact body_pre_post m ρ c

end Cert.KernelIdeal.Pf
-- ==== Proof.Run.lean ====
/- The launch on the 32 devices: the cells funded and dealt, the credit counted, the run and what it leaves. -/
module

public import proofs.«01_k».proof.Proof.Sound
public import Idealize.ShloMosaic.Lib.Pipeline.CollectiveSegs

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- The duties at a device's own cells: turn `i` at its barrier, its receive cell, its send cell. -/
def tokOf (x : Dev nD × (Fin 31 × Fin 3)) : GSem nD τ sig × ℕ × Fin 31 := match x.2.2 with
  | 0 => (barCell x.1, 0, x.2.1) | 1 => (recvCell x.1 x.2.1, 0, 0) | 2 => (sendCell x.1 x.2.1, 0, 0)

/-- The turn and the kind a duty is of. -/
def tokBack (y : GSem nD τ sig × ℕ × Fin 31) : Dev nD × (Fin 31 × Fin 3) := (y.1.1.1, match y.1.2 with
  | .reg _ => (y.2.2, 0)
  | .dma s => (turnOf s, if 38 ≤ (s : Fin 70).val then 1 else 2))

theorem tokBack_tokOf : Function.LeftInverse tokBack tokOf := by
  rintro ⟨c, i, k⟩
  fin_cases k
  · rfl
  · show (c, (turnOf (dsem true i.succ), if 38 ≤ (dsem true i.succ : Fin 70).val then (1 : Fin 3) else 2)) = _
    rw [turnOf_dsem, if_pos (dsem_true_ge _)]; rfl
  · show (c, (turnOf (dsem false i.succ), if 38 ≤ (dsem false i.succ : Fin 70).val then (1 : Fin 3) else 2)) = _
    rw [turnOf_dsem, if_neg (dsem_false_lt _)]; rfl

def allToks : Finset (GSem nD τ sig × ℕ × Fin 31) := Finset.univ.map ⟨tokOf, tokBack_tokOf.injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun i : Fin 31 => dutyTok ER (barCell c) 0 i)
    ∗ (bigSep Finset.univ fun i : Fin 31 => dutyTok ER (recvCell c i) 0 0) ∗ bigSep Finset.univ fun i : Fin 31 => dutyTok ER (sendCell c i) 0 0)

def G (c : Dev nD) : sProp 𝕄 :=
  iprop((bigSep Finset.univ fun k : CK => roundState ER (exRd m) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m K c)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem cells_eq (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

omit [FloatOps F] in
theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_prod, ← bigSep_sep', ← bigSep_sep']
  exact bigSep_congr fun i _ => by rw [bigSep_three]; rfl

theorem fund_all : BI.own (ER (initOf allCells allToks)) ⊢ (|==> bigSep Finset.univ (G m) : sProp 𝕄) := by
  iintro HX
  imod (Rounds.fund ER (exRd m) allCells allToks) $$ HX with ⟨Hst, Hr, Hat, Htok⟩
  imodintro
  ihave Hst' := (Entails.of_eq (cells_eq fun g => roundState ER (exRd m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-! ## The semaphores at launch -/

omit [FloatOps F] in
theorem unscopedSems0_eq (c : Dev nD) : (unscopedSems0 c : sProp 𝕄) = semVal (barCell c) 0 := by
  unfold unscopedSems0; rw [bigSep_eq_bigSepL_of_eq [SemLoc.reg barS.sem] (by decide) (by decide)]; rfl

omit [FloatOps F] in
theorem sems_eq (c : Dev nD) : (bigSep Finset.univ fun k : CK => (semVal (kcell (c, k)) 0 : sProp 𝕄))
    = iprop(unscopedSems0 c ∗ Pipeline.ownSems0 (Ix := Unit) (Name := ℕ) (U := UU) (Lvl := ℕ) (Val := Elt F) (τ := τ) osem c) := by
  rw [bigSep_univ_sum, bigSep_univ_of_subsingleton (), unscopedSems0_eq]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (exRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : CK => semVal (kcell (c, k)) 0) ∗ bigSep Finset.univ fun k : CK => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Device and turn, against the device reached in that turn. -/
def around31 : Dev nD × Fin 31 ≃ Dev nD × Fin 31 where
  toFun x := (fwd x.1 x.2, x.2)
  invFun x := (bwd x.1 x.2, x.2)
  left_inv x := by show (bwd (fwd x.1 x.2) x.2, x.2) = x; rw [bwd_fwd]
  right_inv x := by show (fwd (bwd x.1 x.2) x.2, x.2) = x; rw [fwd_bwd]

omit [FloatOps F] in
theorem deal (Φ : Dev nD → Fin 31 → sProp 𝕄) :
    (bigSep Finset.univ fun c : Dev nD => bigSep Finset.univ fun i : Fin 31 => Φ c i)
      = bigSep Finset.univ fun c : Dev nD => bigSep Finset.univ fun i : Fin 31 => Φ (fwd c i) i := by
  rw [← bigSep_univ_prod (fun x : Dev nD × Fin 31 => Φ x.1 x.2), bigSep_univ_equiv around31, bigSep_univ_prod]
  rfl

omit [FloatOps F] in
/-- Each duty goes to the device that pays it. -/
theorem toks_around : (bigSep Finset.univ fun c : Dev nD => (toks c : sProp 𝕄)) = bigSep Finset.univ fun c : Dev nD => payToks c := by
  unfold toks payToks
  rw [bigSep_sep', bigSep_sep', bigSep_sep', bigSep_sep', deal fun c i => dutyTok ER (barCell c) 0 i, deal fun c i => dutyTok ER (recvCell c i) 0 0]

theorem ghost_intro (K : Dev nD × CK → ℕ) (c : Dev nD) : iprop(records m K ∗ (posn c ∗ payToks c)) ⊢ G' m c := by
  unfold G' ghost
  iintro ⟨HR, Hp, Ht⟩
  iexists K
  isplitl [HR]; · iexact HR
  isplitl [Hp]; · iexact Hp
  iexact Ht

theorem regroup :
    (bigSep Finset.univ fun c : Dev nD => iprop((bigSep Finset.univ fun k : CK => iprop(∃ κ : ℕ, cellInv ER (exRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (exRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (exRd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => (posn c : sProp 𝕄)) payToks).symm)
    isplitl [Hat]; · unfold posn; iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : barCell a = barCell b ↔ a = b :=
  ⟨fun h => congrArg (fun g : GSem nD τ sig => g.1.1) h, fun h => h ▸ rfl⟩
theorem recv_eq_iff {a b : Dev nD} {i j : Fin 31} : recvCell a i = recvCell b j ↔ (a = b ∧ i = j) :=
  ⟨fun h => ⟨congrArg (fun g : GSem nD τ sig => g.1.1) h,
      Fin.succ_injective _ (dsem_inj _ _ _ _ (SemLoc.dma.inj (congrArg Prod.snd h))).2⟩, fun h => by rw [h.1, h.2]⟩
theorem bar_ne_recv (a b : Dev nD) (i : Fin 31) : barCell a ≠ recvCell b i := fun h => by
  have h2 : (SemLoc.reg barS.sem : SemLoc sig) = .dma (dsem true i.succ) := congrArg Prod.snd h
  cases h2

/-- Over the devices, one reaches `c` in turn `i`. -/
theorem sum_reach (c : Dev nD) (i : Fin 31) (k : ℕ) : (∑ d : Dev nD, if c = fwd d i then k else 0) = k := by
  rw [Finset.sum_eq_single (bwd c i)]
  · rw [if_pos (fwd_bwd c i).symm]
  · intro d _ hd
    rw [if_neg]
    intro h
    exact hd (by rw [h, bwd_fwd])
  · intro h; exact absurd (Finset.mem_univ _) h

theorem owed_bar (d c : Dev nD) : O₀ d (barCell c) () = ∑ i : Fin 31, if c = fwd d i then 1 else 0 := by
  unfold O₀ OB OR
  rw [Pi.add_apply, Finsupp.add_apply, tally_sum_apply, tally_sum_apply, rem_zero,
    Finset.sum_congr rfl fun i _ => if_neg (bar_ne_recv c (fwd d i) i), Finset.sum_const_zero, Nat.add_zero]
  exact Finset.sum_congr rfl fun i _ => if_congr bar_eq_iff rfl rfl

theorem owed_recv (d c : Dev nD) (i : Fin 31) : O₀ d (recvCell c i) () = if c = fwd d i then N else 0 := by
  unfold O₀ OB OR
  rw [Pi.add_apply, Finsupp.add_apply, tally_sum_apply, tally_sum_apply, rem_zero,
    Finset.sum_congr rfl fun j _ => if_neg (bar_ne_recv (fwd d j) c i).symm, Finset.sum_const_zero, Nat.zero_add,
    Finset.sum_eq_single i]
  · exact if_congr (recv_eq_iff.trans ⟨fun h => h.1, fun h => ⟨h, rfl⟩⟩) rfl rfl
  · intro j _ hj; exact if_neg fun h => hj (recv_eq_iff.mp h).2.symm
  · intro h; exact absurd (Finset.mem_univ _) h

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_)
  rw [Pipeline.launchCredit_owing, Finsupp.single_eq_same, Finset.sum_congr rfl fun d _ => owed_bar d c, Finset.sum_comm,
    Finset.sum_congr rfl fun i _ => sum_reach c i 1]
  rfl

theorem launch_recv (c : Dev nD) (i : Fin 31) :
    tallyOn (recvCell c i) (launchCredit (Pipeline.owing O₀) 0 (recvCell c i)) = (tallyAt (recvCell c i) () N : CellTallies nD τ sig Unit) := by
  unfold tallyAt; refine congrArg _ (Finsupp.ext fun u => ?_)
  rw [Pipeline.launchCredit_owing, Finsupp.single_eq_same, Finset.sum_congr rfl fun d _ => owed_recv d c i, sum_reach]

/-- The receive semaphores of the 31 turns. -/
def recvSems : Finset (SemLoc sig) := Finset.univ.map ⟨fun i : Fin 31 => (.dma (dsem true i.succ) : SemLoc sig),
  fun i j h => Fin.succ_injective _ (dsem_inj _ _ _ _ (SemLoc.dma.inj h)).2⟩

theorem recvSems_sub : recvSems ⊆ Finset.univ.erase (SemLoc.reg barS.sem) := by
  intro s hs
  obtain ⟨i, -, rfl⟩ := Finset.mem_map.mp hs
  exact Finset.mem_erase.mpr ⟨(fun h => by cases h), Finset.mem_univ _⟩

omit [FloatOps F] in
theorem creds_intro (c : Dev nD) : (Pipeline.launchCred O₀ c : sProp 𝕄) ⊢ creds c := by
  unfold Pipeline.launchCred creds
  rw [bigSep_univ_at _ (SemLoc.reg barS.sem), launch_bar]
  refine sep_mono_right ((bigSep_subset recvSems_sub).trans ?_)
  unfold recvSems
  rw [bigSep_map]
  exact bigSep_mono fun i _ => Entails.of_eq (congrArg cred (launch_recv c i))

/-! ## In and out of the body -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁ scr
  rw [sems_eq]
  iintro ⟨Hr, HzB, Hz⟩
  isplitl [HzB]; · iexact HzB
  isplitl [Hz]; · iexact Hz
  iexists (gat m); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
/-- From any memory with zero counters every weakly fair execution on the 32 devices ends, with each device's arrays at
    what the library computes of the body's contents and every counter at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What each array holds after the run -/

theorem finalA_out (c : Dev nD) : finalA m ρ c (5 : Fin 6) = outA m := by
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  refine (hr _).symm.trans ?_
  show (win0_5.blk (0 : Fin 1)).view.read (Elt F) (finalA m ρ c (5 : Fin 6)) = outA m
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The run: the result on every device is the merged result, the arguments are unchanged, the counters are zero. -/
theorem run_main : θ_run defs (onTc (τ := τ) (main (F := F))) (s₀ m ρ) (fun r => (∀ c : Dev nD,
    r.2.mem ((c : Thread nD τ).loc main_v1) = outA m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) ∧ r.2.sem = fun _ => 0) :=
  (θ_run defs _ _).mono (fun _ h => ⟨fun c =>
    ⟨(h.1 c (5 : Fin 6)).trans (finalA_out m ρ c),
      (h.1 c (0 : Fin 6)).trans ((dats m ρ 0 c).arrAt_in (0 : Fin 6) rfl _),
      (h.1 c (1 : Fin 6)).trans ((dats m ρ 0 c).arrAt_in (1 : Fin 6) rfl _),
      (h.1 c (2 : Fin 6)).trans ((dats m ρ 0 c).arrAt_in (2 : Fin 6) rfl _),
      (h.1 c (3 : Fin 6)).trans ((dats m ρ 0 c).arrAt_in (3 : Fin 6) rfl _),
      (h.1 c (4 : Fin 6)).trans ((dats m ρ 0 c).arrAt_in (4 : Fin 6) rfl _)⟩, h.2⟩) (run_windows m ρ)

end Cert.KernelIdeal.Pf
-- ==== Proof.Frames.lean ====
/- The frames: each program ends, leaves its arguments as they were and every counter at zero. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent
public import Idealize.ShloMosaic.PureOps.BitExact

@[expose] public section

noncomputable section

namespace Cert.Proof

open Idealize.ShloMosaic Idealize.SL.Sem

/-- What the preconditions' own operations ask of the shapes. -/
theorem facts_kernel_pre : Cert.Pre_pages_named_KernelIdeal.Facts := by constructor <;> decide
theorem facts_reference_pre : Cert.Pre_pages_named_ReferenceIdeal.Facts := by constructor <;> decide

set_option maxRecDepth 1000000 in
/-- The two prints have the same body. -/
theorem same_defs₀ : (Cert.Kernel.defs₀ (F := Bits)) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext ℓ a
  match ℓ, a with
  | 0, (t, s) => rfl

theorem same_defs : (Cert.Kernel.defs (F := Bits)) = Cert.KernelIdeal.defs (F := Bits) := by
  unfold Cert.Kernel.defs Cert.KernelIdeal.defs
  rw [same_defs₀]
  rfl

/-- The kernel on words. -/
theorem frame_kernel : Cert.quiescent_Kernel := fun m ρ _ => by
  have h := (θ_run Cert.KernelIdeal.defs _ _).mono (fun _ h => (⟨fun c => (h.1 c).2, h.2⟩ : _ ∧ _)) (Cert.KernelIdeal.Pf.run_main (F := Bits) m ρ)
  rw [← same_defs] at h
  exact h

/-- The kernel over the extended reals. -/
theorem frame_ideal : Cert.quiescent_KernelIdeal := fun m ρ _ =>
  (θ_run Cert.KernelIdeal.defs _ _).mono (fun _ h => ⟨fun c => (h.1 c).2, h.2⟩) (Cert.KernelIdeal.Pf.run_main (F := Ideal) m ρ)

/-- The reference over the extended reals. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.Softmax.lean ====
/- Weighted softmax sums of real scores over extended-real values: the sum over one list, and the sum merged from the
   partial sums of several lists, each with its own largest score. Both are written with plain exponentials. -/
module

public import Idealize.ShloMosaic.PureOps.Ideal
public import Idealize.ShloMosaic.PureOps.Ideal.Laws
public import Mathlib.Data.EReal.Inv

@[expose] public section

noncomputable section

namespace Cert.Softmax

open Idealize.ShloMosaic

/-! ## Sums of extended reals -/

theorem coe_mul_sum {ι : Type*} (S : Finset ι) (a : ℝ) (ha : 0 ≤ a) (f : ι → EReal) :
    (a : EReal) * ∑ i ∈ S, f i = ∑ i ∈ S, (a : EReal) * f i := by
  classical
  induction S using Finset.induction_on with
  | empty => simp
  | insert i S hi ih =>
    rw [Finset.sum_insert hi, Finset.sum_insert hi, ← ih]
    exact EReal.left_distrib_of_nonneg_of_ne_top (EReal.coe_nonneg.mpr ha) (EReal.coe_ne_top a) _ _

theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, ← ih, EReal.coe_add]

/-- The largest of finitely many scores below `⊤`, one of them above `⊥`, is a real number. -/
theorem fold_max_real {ι : Type*} (S : Finset ι) (f : ι → EReal) (hlt : ∀ i ∈ S, f i < ⊤) (hex : ∃ i ∈ S, ⊥ < f i) :
    ∃ μ : ℝ, S.fold max ⊥ f = (μ : EReal) := by
  obtain ⟨i, hi, hb⟩ := hex
  have h1 : S.fold max ⊥ f < ⊤ := (Finset.fold_max_lt _).mpr ⟨bot_lt_top, hlt⟩
  have h2 : ⊥ < S.fold max ⊥ f := hb.trans_le ((Finset.le_fold_max _).mpr (Or.inr ⟨i, hi, le_rfl⟩))
  exact ⟨_, (EReal.coe_toReal h1.ne h2.ne').symm⟩

/-! ## One list -/

section One

variable {J : Type*} [Fintype J] (live : J → Prop) [DecidablePred live] (s : J → ℝ) (v : J → EReal)

/-- The sum of the exponentials of the live scores. -/
def mass : ℝ := ∑ j, if live j then Real.exp (s j) else 0

theorem mass_pos (h : ∃ j, live j) : 0 < mass live s := by
  obtain ⟨j, hj⟩ := h
  refine Finset.sum_pos' (fun i _ => ?_) ⟨j, Finset.mem_univ _, ?_⟩
  · split
    · exact (Real.exp_pos _).le
    · exact le_rfl
  · rw [if_pos hj]; exact Real.exp_pos _

/-- A score, `⊥` where the position is not live. -/
def score (j : J) : EReal := if live j then (s j : EReal) else ⊥

theorem exp_score (μ : ℝ) (j : J) :
    Ideal.exp (score live s j - (μ : EReal)) = ((Real.exp (-μ) * (if live j then Real.exp (s j) else 0) : ℝ) : EReal) := by
  unfold score
  split
  · rw [← EReal.coe_sub, Ideal.exp_coe, sub_eq_neg_add, Real.exp_add]
  · rw [EReal.bot_sub, Ideal.exp_bot, mul_zero, EReal.coe_zero]

/-- The softmax over one list, whatever largest score was subtracted. -/
theorem one_list (h : ∃ j, live j) (T : EReal)
    (hT : T = Finset.univ.fold max ⊥ (score live s)) :
    (∑ j, v j * Ideal.div (Ideal.exp (score live s j - T)) (∑ i, Ideal.exp (score live s i - T)))
      = ∑ j, (((if live j then Real.exp (s j) else 0) / mass live s : ℝ) : EReal) * v j := by
  obtain ⟨μ, hμ⟩ := fold_max_real Finset.univ (score live s)
    (fun i _ => by unfold score; split; exact EReal.coe_lt_top _; exact bot_lt_top)
    (by obtain ⟨j, hj⟩ := h; exact ⟨j, Finset.mem_univ _, by unfold score; rw [if_pos hj]; exact EReal.bot_lt_coe _⟩)
  rw [hT, hμ]
  have hL : (∑ i, Ideal.exp (score live s i - (μ : EReal))) = ((Real.exp (-μ) * mass live s : ℝ) : EReal) := by
    unfold mass
    rw [Finset.mul_sum, coe_sum]
    exact Finset.sum_congr rfl fun i _ => exp_score live s μ i
  have hm : mass live s ≠ 0 := (mass_pos live s h).ne'
  have he : Real.exp (-μ) ≠ 0 := (Real.exp_pos _).ne'
  rw [hL]
  refine Finset.sum_congr rfl fun j _ => ?_
  rw [exp_score, Ideal.div_coe (mul_ne_zero he hm), ← EReal.coe_mul, mul_comm (v j)]
  congr 2
  field_simp

end One

/-! ## Several lists, each with counts -/

section Many

variable {C K : Type*} [Fintype C] [Fintype K] (n : C → K → ℕ) (s : C → K → ℝ) (t : ℝ) (v : C → K → EReal)

/-- The sum of the exponentials, each as often as it is counted. -/
def cmass : ℝ := ∑ c, ∑ k, (n c k : ℝ) * Real.exp (s c k)

theorem cmass_pos (h : ∃ c k, 0 < n c k) : 0 < cmass n s := by
  obtain ⟨c, k, hk⟩ := h
  have h0 : ∀ c k, 0 ≤ (n c k : ℝ) * Real.exp (s c k) := fun c k => mul_nonneg (Nat.cast_nonneg _) (Real.exp_pos _).le
  refine Finset.sum_pos' (fun c _ => Finset.sum_nonneg fun k _ => h0 c k) ⟨c, Finset.mem_univ _, ?_⟩
  exact Finset.sum_pos' (fun k _ => h0 c k) ⟨k, Finset.mem_univ _, mul_pos (Nat.cast_pos.mpr hk) (Real.exp_pos _)⟩

/-- A score, the real `t` where the count is zero. -/
def cscore (c : C) (k : K) : EReal := if 0 < n c k then (s c k : EReal) else (t : EReal)

theorem exp_cscore (μ : ℝ) (c : C) (k : K) :
    Ideal.exp (cscore n s t c k - (μ : EReal)) * ((n c k : ℝ) : EReal)
      = ((Real.exp (-μ) * ((n c k : ℝ) * Real.exp (s c k)) : ℝ) : EReal) := by
  unfold cscore
  split
  · rw [← EReal.coe_sub, Ideal.exp_coe, ← EReal.coe_mul, sub_eq_neg_add, Real.exp_add]
    congr 1; ring
  · rename_i h0
    have h1 : n c k = 0 := by omega
    rw [← EReal.coe_sub, Ideal.exp_coe, ← EReal.coe_mul, h1]
    simp

/-- The merge of the lists' partial sums is the softmax over all of them. -/
theorem many_lists [Nonempty K] (h : ∃ c k, 0 < n c k) (M : C → EReal) (G : EReal)
    (hM : ∀ c, M c = Finset.univ.fold max ⊥ (cscore n s t c)) (hG : G = Finset.univ.fold max ⊥ M) :
    Ideal.div
        (∑ c, Ideal.exp (M c - G) * ∑ k, Ideal.exp (cscore n s t c k - M c) * ((n c k : ℝ) : EReal) * v c k)
        (∑ c, Ideal.exp (M c - G) * ∑ k, Ideal.exp (cscore n s t c k - M c) * ((n c k : ℝ) : EReal))
      = ∑ c, ∑ k, (((n c k : ℝ) * Real.exp (s c k) / cmass n s : ℝ) : EReal) * v c k := by
  have hreal : ∀ c, ∃ μ : ℝ, M c = (μ : EReal) := fun c => by
    rw [hM]
    refine fold_max_real _ _ (fun k _ => ?_) ⟨Classical.arbitrary K, Finset.mem_univ _, ?_⟩
    · unfold cscore; split <;> exact EReal.coe_lt_top _
    · unfold cscore; split <;> exact EReal.bot_lt_coe _
  choose μ hμ using hreal
  obtain ⟨φ, hφ⟩ : ∃ φ : ℝ, G = (φ : EReal) := by
    rw [hG]
    obtain ⟨c, -⟩ := h
    refine fold_max_real _ _ (fun c _ => ?_) ⟨c, Finset.mem_univ _, ?_⟩
    · rw [hμ]; exact EReal.coe_lt_top _
    · rw [hμ]; exact EReal.bot_lt_coe _
  have hs : ∀ c, Real.exp (μ c - φ) * Real.exp (-μ c) = Real.exp (-φ) := fun c => by
    rw [← Real.exp_add]; congr 1; ring
  have hden : (∑ c, Ideal.exp (M c - G) * ∑ k, Ideal.exp (cscore n s t c k - M c) * ((n c k : ℝ) : EReal))
      = ((Real.exp (-φ) * cmass n s : ℝ) : EReal) := by
    unfold cmass
    rw [Finset.mul_sum, coe_sum]
    refine Finset.sum_congr rfl fun c _ => ?_
    rw [hμ, hφ, ← EReal.coe_sub, Ideal.exp_coe, ← hs c, mul_assoc, EReal.coe_mul]
    congr 1
    rw [Finset.mul_sum, coe_sum]
    exact Finset.sum_congr rfl fun k _ => exp_cscore n s t (μ c) c k
  have hnum : (∑ c, Ideal.exp (M c - G) * ∑ k, Ideal.exp (cscore n s t c k - M c) * ((n c k : ℝ) : EReal) * v c k)
      = (Real.exp (-φ) : EReal) * ∑ c, ∑ k, (((n c k : ℝ) * Real.exp (s c k) : ℝ) : EReal) * v c k := by
    rw [coe_mul_sum _ _ (Real.exp_pos _).le]
    refine Finset.sum_congr rfl fun c _ => ?_
    rw [hμ, hφ, ← EReal.coe_sub, Ideal.exp_coe, ← hs c, EReal.coe_mul, mul_assoc]
    congr 1
    rw [coe_mul_sum _ _ (Real.exp_pos _).le]
    refine Finset.sum_congr rfl fun k _ => ?_
    rw [exp_cscore, EReal.coe_mul, mul_assoc]
  have hm : cmass n s ≠ 0 := (cmass_pos n s h).ne'
  have hm0 : 0 ≤ 1 / cmass n s := one_div_nonneg.mpr (cmass_pos n s h).le
  have he : Real.exp (-φ) ≠ 0 := (Real.exp_pos _).ne'
  rw [hden, hnum, Ideal.div_coe (mul_ne_zero he hm), mul_comm, ← mul_assoc, ← EReal.coe_mul]
  have : 1 / (Real.exp (-φ) * cmass n s) * Real.exp (-φ) = 1 / cmass n s := by field_simp
  rw [this, coe_mul_sum _ _ hm0]
  refine Finset.sum_congr rfl fun c _ => ?_
  rw [coe_mul_sum _ _ hm0]
  refine Finset.sum_congr rfl fun k _ => ?_
  rw [← mul_assoc, ← EReal.coe_mul]
  congr 2
  field_simp

end Many

end Cert.Softmax
-- ==== Proof.Count.lean ====
/- Counting: a sum over the live slots of a page table, each naming a page of 16 rows, is a sum over all pages and rows,
   each as often as the table names it. The 4096 pages are 32 runs of 128, and a run's 2048 keys are its pages' rows. -/
module

public import proofs.«01_k».proof.Proof.Softmax

@[expose] public section

noncomputable section

namespace Cert.Count

open Cert.Softmax

/-- The page of key `k` of run `c`. -/
def gp (c : Fin 32) (k : Fin 2048) : Fin 4096 := ⟨c.val * 128 + k.val / 16, by omega⟩
/-- The row of key `k`. -/
def gr (k : Fin 2048) : Fin 16 := ⟨k.val % 16, by omega⟩

variable (live : Fin 128 → Prop) [DecidablePred live] (pg : Fin 128 → Fin 4096)

/-- How many live slots name the page of key `k` of run `c`. -/
def cnt (c : Fin 32) (k : Fin 2048) : ℕ := (Finset.univ.filter fun n => live n ∧ pg n = gp c k).card

/-- The keys of one page are its rows. -/
theorem sum_page {A : Type*} [AddCommMonoid A] (P : Fin 4096) (F : Fin 4096 → Fin 16 → A) :
    (∑ c : Fin 32, ∑ k : Fin 2048, if P = gp c k then F (gp c k) (gr k) else 0) = ∑ r : Fin 16, F P r := by
  have hP := P.isLt
  rw [Finset.sum_eq_single (⟨P.val / 128, by omega⟩ : Fin 32)]
  · refine (Finset.sum_of_injOn (fun r : Fin 16 => (⟨P.val % 128 * 16 + r.val, by omega⟩ : Fin 2048)) ?_ ?_ ?_ ?_).symm
    · intro a _ b _ h
      have := congrArg Fin.val h
      exact Fin.ext (by simpa using this)
    · intro a _; exact Finset.mem_coe.mpr (Finset.mem_univ _)
    · intro k _ hk
      refine if_neg fun h => hk ?_
      have h' : P.val = P.val / 128 * 128 + k.val / 16 := congrArg Fin.val h
      exact ⟨⟨k.val % 16, by omega⟩, Finset.mem_coe.mpr (Finset.mem_univ _), Fin.ext (by
        show P.val % 128 * 16 + k.val % 16 = k.val
        omega)⟩
    · intro r _
      have hr := r.isLt
      have e1 : P = gp ⟨P.val / 128, by omega⟩ ⟨P.val % 128 * 16 + r.val, by omega⟩ := Fin.ext (by
        show P.val = P.val / 128 * 128 + (P.val % 128 * 16 + r.val) / 16
        omega)
      have e2 : gr ⟨P.val % 128 * 16 + r.val, by omega⟩ = r := Fin.ext (by
        show (P.val % 128 * 16 + r.val) % 16 = r.val
        omega)
      rw [if_pos e1, ← e1, e2]
  · intro c _ hc
    refine Finset.sum_eq_zero fun k _ => if_neg fun h => hc (Fin.ext ?_)
    have h' : P.val = c.val * 128 + k.val / 16 := congrArg Fin.val h
    have := k.isLt
    show c.val = P.val / 128
    omega
  · intro h; exact absurd (Finset.mem_univ _) h

theorem regroup {A : Type*} [AddCommMonoid A] (F : Fin 4096 → Fin 16 → A) :
    (∑ c, ∑ k, cnt live pg c k • F (gp c k) (gr k))
      = ∑ j : Fin 128 × Fin 16, if live j.1 then F (pg j.1) j.2 else 0 := by
  have h1 : ∀ c k, cnt live pg c k • F (gp c k) (gr k)
      = ∑ n, if live n then (if pg n = gp c k then F (gp c k) (gr k) else 0) else 0 := fun c k => by
    unfold cnt
    rw [← Finset.sum_const, Finset.sum_filter]
    refine Finset.sum_congr rfl fun n _ => ?_
    by_cases hn : live n
    · simp only [hn, true_and, if_true]
    · simp only [hn, false_and, if_false]
  simp only [h1]
  rw [Finset.sum_congr rfl fun c _ => Finset.sum_comm, Finset.sum_comm, Fintype.sum_prod_type]
  refine Finset.sum_congr rfl fun n _ => ?_
  by_cases hn : live n
  · simp only [hn, if_true]
    exact sum_page (pg n) F
  · simp only [hn, if_false, Finset.sum_const_zero]

theorem cnt_pos (n : Fin 128) (hn : live n) : ∃ c k, 0 < cnt live pg c k := by
  have hP := (pg n).isLt
  refine ⟨⟨(pg n).val / 128, by omega⟩, ⟨(pg n).val % 128 * 16, by omega⟩, Finset.card_pos.mpr ⟨n, ?_⟩⟩
  rw [Finset.mem_filter]
  refine ⟨Finset.mem_univ _, hn, Fin.ext ?_⟩
  show (pg n).val = (pg n).val / 128 * 128 + (pg n).val % 128 * 16 / 16
  omega

variable (s : Fin 4096 → Fin 16 → ℝ) (v : Fin 4096 → Fin 16 → EReal)

theorem mass_eq : cmass (cnt live pg) (fun c k => s (gp c k) (gr k))
    = mass (fun j : Fin 128 × Fin 16 => live j.1) (fun j => s (pg j.1) j.2) := by
  unfold cmass mass
  rw [← regroup live pg fun P r => Real.exp (s P r)]
  exact Finset.sum_congr rfl fun c _ => Finset.sum_congr rfl fun k _ => (nsmul_eq_mul _ _).symm

/-- The two ways to write the softmax over the live slots. -/
theorem softmax_eq :
    (∑ j : Fin 128 × Fin 16, (((if live j.1 then Real.exp (s (pg j.1) j.2) else 0)
        / mass (fun j : Fin 128 × Fin 16 => live j.1) (fun j => s (pg j.1) j.2) : ℝ) : EReal) * v (pg j.1) j.2)
      = ∑ c, ∑ k, (((cnt live pg c k : ℝ) * Real.exp (s (gp c k) (gr k))
        / cmass (cnt live pg) (fun c k => s (gp c k) (gr k)) : ℝ) : EReal) * v (gp c k) (gr k) := by
  rw [mass_eq]
  generalize mass (fun j : Fin 128 × Fin 16 => live j.1) (fun j => s (pg j.1) j.2) = Z
  refine Eq.trans ?_ (Eq.trans (regroup live pg fun P r => ((Real.exp (s P r) / Z : ℝ) : EReal) * v P r).symm ?_)
  · refine Finset.sum_congr rfl fun j _ => ?_
    split
    · rfl
    · rw [zero_div, EReal.coe_zero, zero_mul]
  · refine Finset.sum_congr rfl fun c _ => Finset.sum_congr rfl fun k _ => ?_
    rw [EReal.nsmul_eq_mul, ← mul_assoc, mul_div_assoc, EReal.coe_mul]
    rfl

end Cert.Count
-- ==== Proof.Loads.lean ====
/- The body's loads, read at an index: each is an element of an argument, or of the gathered array. -/
module

public import proofs.«01_k».proof.Proof.Contents
public import Idealize.ShloMosaic.Lib.Pointwise
public import Idealize.ShloMosaic.Lib.Pointwise.IndexBridge

@[expose] public section

noncomputable section

namespace Cert.KernelIdeal.Pf

open Cert.KernelIdeal Cert.KernelIdeal.Gen
open Idealize.ShloMosaic Idealize.ShloMosaic.TcCoe

variable {F : FTy → Type} [FloatOps F]
variable (m : (ℓ : Loc nD τ sig) → Buf (Elt F) ℓ)

/-! ## A staged input is the whole argument -/

theorem stQ_eq (c : Dev nD) : stQ m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem stK_eq (c : Dev nD) : stK m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _
theorem stV_eq (c : Dev nD) : stV m c = m ((c : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) _
theorem stB_eq (c : Dev nD) : stB m c = m ((c : Thread nD τ).loc main_arg3) := by
  have hz : (fun a => (win0_3.index (0 : Fin 1)) a * main_arg3.ty.shape.size a) = fun _ => 0 :=
    funext fun a => by fin_cases a <;> decide
  exact Memref.read_access_unit_zero (Elt F) main_arg3 hz (fun a => by fin_cases a <;> decide) _
theorem stL_eq (c : Dev nD) : stL m c = m ((c : Thread nD τ).loc main_arg4) := by
  have hz : (fun a => (win0_4.index (0 : Fin 1)) a * main_arg4.ty.shape.size a) = fun _ => 0 :=
    funext fun a => by fin_cases a <;> decide
  exact Memref.read_access_unit_zero (Elt F) main_arg4 hz (fun a => by fin_cases a <;> decide) _

/-! ## A load of one head -/

/-- The index a unit-stride rectangle of rank 4 names. -/
theorem idx4 {n0 n1 n2 n3 k0 k1 k2 k3 : Nat} (o0 o1 o2 o3 : Nat)
    (inb : ∀ a, (![o0, o1, o2, o3] : Fin 4 → Nat) a + (![k0, k1, k2, k3] : Fin 4 → Nat) a ≤ (⟨4, ![n0, n1, n2, n3]⟩ : Shape).size a)
    (a0 : Fin k0) (a1 : Fin k1) (a2 : Fin k2) (a3 : Fin k3) (b0 : Fin n0) (b1 : Fin n1) (b2 : Fin n2) (b3 : Fin n3)
    (e0 : o0 + a0.val = b0.val) (e1 : o1 + a1.val = b1.val) (e2 : o2 + a2.val = b2.val) (e3 : o3 + a3.val = b3.val) :
    (Rect.unit (s := ⟨4, ![n0, n1, n2, n3]⟩) ![o0, o1, o2, o3] ![k0, k1, k2, k3] inb).toLoadRect.idx (ix4 a0 a1 a2 a3)
      = ix4 b0 b1 b2 b3 := by
  funext a
  refine Fin.ext ?_
  match a with
  | 0 => show o0 + 1 * a0.val = b0.val; omega
  | 1 => show o1 + 1 * a1.val = b1.val; omega
  | 2 => show o2 + 1 * a2.val = b2.val; omega
  | 3 => show o3 + 1 * a3.val = b3.val; omega

theorem ldQ_apply (c : Dev nD) (b h : Fin 16) (d : Fin 64) :
    ldQ m c h (ix4 b 0 0 d) = m ((c : Thread nD τ).loc main_arg0) (ix4 b 0 h d) := by
  rw [← stQ_eq m c]
  exact congrArg (stQ m c) (idx4 0 0 h.val 0 (inb_q h) b 0 0 d b 0 h d (by simp) (by simp) (by simp) (by simp))

theorem ldK_apply (c : Dev nD) (p : Fin 128) (r h : Fin 16) (d : Fin 64) :
    ldK m c h (ix4 p r 0 d) = m ((c : Thread nD τ).loc main_arg1) (ix4 p r h d) := by
  rw [← stK_eq m c]
  exact congrArg (stK m c) (idx4 0 0 h.val 0 (inb_k h) p r 0 d p r h d (by simp) (by simp) (by simp) (by simp))

theorem ldV_apply (c : Dev nD) (p : Fin 128) (r h : Fin 16) (d : Fin 64) :
    ldV m c h (ix4 p r 0 d) = m ((c : Thread nD τ).loc main_arg2) (ix4 p r h d) := by
  rw [← stV_eq m c]
  exact congrArg (stV m c) (idx4 0 0 h.val 0 (inb_k h) p r 0 d p r h d (by simp) (by simp) (by simp) (by simp))

theorem ldB_apply (c : Dev nD) (b : Fin 16) (n : Fin 128) :
    ldB m c (ix2 b n) = m ((c : Thread nD τ).loc main_arg3) (ix2 b n) := by
  rw [← stB_eq m c]
  refine congrArg (stB m c) (funext fun a => Fin.ext ?_)
  match a with
  | 0 => show 0 + 1 * b.val = b.val; omega
  | 1 => show 0 + 1 * n.val = n.val; omega

theorem ldL_apply (c : Dev nD) (b : Fin 16) :
    ldL m c (ix1 b) = m ((c : Thread nD τ).loc main_arg4) (ix1 b) := by
  rw [← stL_eq m c]
  refine congrArg (stL m c) (funext fun a => Fin.ext ?_)
  match a with
  | 0 => show 0 + 1 * b.val = b.val; omega

/-! ## A load of the gathered array -/

set_option maxRecDepth 100000 in
theorem gO_apply (c : Dev nD) (b h : Fin 16) (d : Fin 64) :
    gM.view.readAt (Elt F) (rGO h).toLoadRect (gat m) (ix4 c 0 b d) = partO m c h (ix4 0 0 b d) := by
  refine (congrArg (gat m) (idx4 0 h.val 0 0 (inb_go h) c 0 b d c h b (⟨d.val, by omega⟩ : Fin 66)
    (by simp) (by simp) (by simp) (by simp))).trans ?_
  have hd : d.val < 64 := d.isLt
  unfold gat
  rw [dif_pos (show ((ix4 c h b (⟨d.val, by omega⟩ : Fin 66) : S32x16x16x66.Idx) 3).val < 64 from hd), ix4_eq_valueIdx 0 0 b d]
  rfl

set_option maxRecDepth 100000 in
theorem gM_apply (c : Dev nD) (b h : Fin 16) :
    gM.view.readAt (Elt F) (rGM h).toLoadRect (gat m) (ix4 c 0 b 0) = partM m c h (ix4 0 0 b 0) := by
  refine (congrArg (gat m) (idx4 0 h.val 0 64 (inb_gm h) c 0 b 0 c h b (⟨64, by omega⟩ : Fin 66)
    (by simp) (by simp) (by simp) rfl)).trans ?_
  unfold gat
  rw [dif_neg (show ¬ ((ix4 c h b (⟨64, by omega⟩ : Fin 66) : S32x16x16x66.Idx) 3).val < 64 from Nat.lt_irrefl 64),
    if_pos (show ((ix4 c h b (⟨64, by omega⟩ : Fin 66) : S32x16x16x66.Idx) 3).val = 64 from rfl), ix4_eq_valueIdx 0 0 b 0]
  rfl

set_option maxRecDepth 100000 in
theorem gL_apply (c : Dev nD) (b h : Fin 16) :
    gM.view.readAt (Elt F) (rGL h).toLoadRect (gat m) (ix4 c 0 b 0) = partL m c h (ix4 0 0 b 0) := by
  refine (congrArg (gat m) (idx4 0 h.val 0 65 (inb_gl h) c 0 b 0 c h b (⟨65, by omega⟩ : Fin 66)
    (by simp) (by simp) (by simp) rfl)).trans ?_
  unfold gat
  rw [dif_neg (show ¬ ((ix4 c h b (⟨65, by omega⟩ : Fin 66) : S32x16x16x66.Idx) 3).val < 64 from (by decide : ¬ 65 < 64)),
    if_neg (show ¬ ((ix4 c h b (⟨65, by omega⟩ : Fin 66) : S32x16x16x66.Idx) 3).val = 64 from (by decide : ¬ 65 = 64)), ix4_eq_valueIdx 0 0 b 0]
  rfl

end Cert.KernelIdeal.Pf
-- ==== Proof.Weights.lean ====
/- The kernel's weights: the weight of key `k` at device `c` is how many live slots of the table name its page. -/
module

public import proofs.«01_k».proof.Proof.Count
public import proofs.«01_k».proof.Proof.Loads
public import Idealize.ShloMosaic.Lib.WordCmp

@[expose] public section

noncomputable section

namespace Cert.KernelIdeal.Pf

open Cert.KernelIdeal Cert.KernelIdeal.Gen Cert.Count
open Idealize.ShloMosaic Idealize.ShloMosaic.TcCoe

/-- The word that says whether slot `n` of request `b` is below its length. -/
def liveW (ln : IVec S16 32) (b : Fin 16) (n : Fin 128) : BitVec 1 := IntOp.cmpi .slt (BitVec.ofNat 32 n.val) (ln (ix1 b))
/-- Slot `n` of request `b` is live. -/
abbrev Live (ln : IVec S16 32) (b : Fin 16) (n : Fin 128) : Prop := liveW ln b n = 1#1
/-- The page slot `n` of request `b` names. -/
def pageOf (bt : IVec S16x128 32) (b : Fin 16) (n : Fin 128) : Fin 4096 :=
  ⟨(bt (ix2 b n)).toNat % 4096, Nat.mod_lt _ (by omega)⟩

/-- The live slots name pages that exist. -/
def InRange (bt : IVec S16x128 32) (ln : IVec S16 32) : Prop := ∀ b n, Live ln b n → (bt (ix2 b n)).toNat < 4096

/-- Floor division of a key by 16, as the program computes it. -/
theorem floor16 : ∀ k : Fin 2048,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 k.val) 16#32) 0#32))
      (IntOp.subi (IntOp.divsi ArithUnit.vector (BitVec.ofNat 32 k.val) 16#32) 1#32)
      (IntOp.divsi ArithUnit.vector (BitVec.ofNat 32 k.val) 16#32) = BitVec.ofNat 32 (k.val / 16) := by decide +kernel

/-- A word of one bit, widened and read as a number, is 1 or 0. -/
theorem sitofp_bit (P : Prop) [Decidable P] :
    (FloatOps.sitofp FTy.f32 (BitVec.setWidth 32 (BitVec.ofBool (decide P))) : Ideal FTy.f32) = (if P then 1 else 0 : EReal) := by
  show ((((BitVec.setWidth 32 (BitVec.ofBool (decide P))).toInt : ℤ) : ℝ) : EReal) = _
  by_cases h : P
  · rw [if_pos h, decide_eq_true h]
    rw [show (BitVec.setWidth 32 (BitVec.ofBool true)).toInt = 1 from by decide]; simp
  · rw [if_neg h, decide_eq_false h]
    rw [show (BitVec.setWidth 32 (BitVec.ofBool false)).toInt = 0 from by decide]; simp

/-- The comparison of one slot of the table with page `p` of device `c`. -/
theorem hit (c : Dev nD) (x : BitVec 32) (l : BitVec 1) (hx : l = 1#1 → x.toNat < 4096) (p : Fin 128) :
    IntOp.cmpi CmpIPredicate.eq (BitVec.ofNat 32 p.val)
      (Scalar.select
        (IntOp.andi
          (IntOp.andi (IntOp.cmpi CmpIPredicate.sge (IntOp.subi x (Scalar.muli (posw c) 128#32)) 0#32)
            (IntOp.cmpi CmpIPredicate.slt (IntOp.subi x (Scalar.muli (posw c) 128#32)) 128#32)) l)
        (IntOp.subi x (Scalar.muli (posw c) 128#32)) 4294967295#32)
      = BitVec.ofBool (decide (l = 1#1 ∧ x.toNat % 4096 = c.val * 128 + p.val)) := by
  have hp := p.isLt
  have hc : c.val < 32 := c.isLt
  have hy : (Scalar.muli (posw c) 128#32).toNat = c.val * 128 := by
    show (posw c * 128#32).toNat = _
    rw [BitVec.toNat_mul, posw_eq]
    show c.val * 128 % 2 ^ 32 = _
    omega
  generalize Scalar.muli (posw c) 128#32 = y at hy ⊢
  have hz : (IntOp.subi x y).toNat = (2 ^ 32 - c.val * 128 + x.toNat) % 2 ^ 32 := by
    show (x - y).toNat = _
    rw [BitVec.toNat_sub, hy]
  generalize IntOp.subi x y = z at hz ⊢
  have hzi := BitVec.toInt_eq_toNat_cond z
  have hzl := z.isLt
  have hxl := x.isLt
  have hin : IntOp.andi (IntOp.cmpi CmpIPredicate.sge z 0#32) (IntOp.cmpi CmpIPredicate.slt z 128#32)
      = BitVec.ofBool (decide (z.toNat < 128)) := by
    rw [WordCmp.cmpi_sge_eq, WordCmp.cmpi_slt_eq, WordCmp.andi_ofBool, ← Bool.decide_and]
    refine congrArg BitVec.ofBool (decide_eq_decide.mpr ?_)
    rw [show (0#32).toInt = 0 from by decide, show (128#32).toInt = 128 from by decide]
    split at hzi <;> omega
  have hpn : (BitVec.ofNat 32 p.val).toNat = p.val := by rw [BitVec.toNat_ofNat]; omega
  rw [hin, WordCmp.cmpi_eq_eq_toNat, hpn]
  refine congrArg BitVec.ofBool (decide_eq_decide.mpr ?_)
  rcases BitVec.eq_zero_or_eq_one l with rfl | rfl
  · rw [show IntOp.andi (BitVec.ofBool (decide (z.toNat < 128))) 0#1 = 0#1 from by cases decide (z.toNat < 128) <;> rfl]
    show p.val = (4294967295#32).toNat ↔ _
    rw [show (4294967295#32).toNat = 4294967295 from by decide]
    exact ⟨fun h => absurd h (by omega), fun h => absurd h.1 (by decide)⟩
  · have hx' := hx rfl
    by_cases h : z.toNat < 128
    · rw [decide_eq_true h]
      show p.val = z.toNat ↔ _
      exact ⟨fun e => ⟨rfl, by omega⟩, fun e => by have := e.2; omega⟩
    · rw [decide_eq_false h]
      show p.val = (4294967295#32).toNat ↔ _
      rw [show (4294967295#32).toNat = 4294967295 from by decide]
      exact ⟨fun e => absurd e (by omega), fun e => by have := e.2; omega⟩

/-- The table's count of page `p` of device `c`. -/
theorem pay2_apply (c : Dev nD) (bt : Vec Ideal S16x128 .i32) (ln : Vec Ideal S16 .i32) (hr : InRange bt ln) (p : Fin 128)
    (b : Fin 16) : k0_pay2 (posw c) bt ln (ix2 p b)
      = (((Finset.univ.filter fun n => Live ln b n ∧ (pageOf bt b n).val = c.val * 128 + p.val).card : ℝ) : EReal) := by
  pointwise [k0_pay2]
  have e : ∀ n : Fin 128, _ := fun n => hit c (bt (ix2 b n)) (liveW ln b n) (hr b n) p
  unfold liveW at e
  simp only [e, sitofp_bit]
  rw [Finset.sum_boole]
  rfl

/-- The weight of key `k` at device `c`. -/
theorem wgt_apply (c : Dev nD) (bt : Vec Ideal S16x128 .i32) (ln : Vec Ideal S16 .i32) (hr : InRange bt ln) (b : Fin 16)
    (k : Fin 2048) : wgt c bt ln (ix2 b k) = ((cnt (Live ln b) (pageOf bt b) c k : ℝ) : EReal) := by
  have hk := k.isLt
  unfold wgt
  generalize hX : k0_pay2 (posw c) bt ln = X
  pointwise [k0_pay3]
  simp only [floor16]
  have e : ∀ p : Fin 128, IntOp.cmpi CmpIPredicate.eq (BitVec.ofNat 32 (k.val / 16)) (BitVec.ofNat 32 p.val)
      = BitVec.ofBool (decide (p = (⟨k.val / 16, by omega⟩ : Fin 128))) := fun p => by
    have hp := p.isLt
    rw [WordCmp.cmpi_eq_eq_toNat, BitVec.toNat_ofNat, BitVec.toNat_ofNat]
    refine congrArg BitVec.ofBool (decide_eq_decide.mpr ⟨fun h => Fin.ext ?_, fun h => ?_⟩)
    · show p.val = k.val / 16; omega
    · rw [h]
  simp only [e, sitofp_bit]
  rw [Finset.sum_eq_single (⟨k.val / 16, by omega⟩ : Fin 128)]
  · rw [if_pos rfl, mul_one, ← hX, pay2_apply c bt ln hr]
    unfold cnt
    refine congrArg (fun n : ℕ => ((n : ℝ) : EReal)) (congrArg Finset.card (Finset.filter_congr fun n _ => ?_))
    exact and_congr_right fun _ => (Fin.ext_iff (a := pageOf bt b n) (b := gp c k)).symm
  · intro p _ hp; rw [if_neg hp, mul_zero]
  · intro h; exact absurd (Finset.mem_univ _) h

/-- Whether that weight is positive, as the program asks it. -/
theorem wpos_apply (c : Dev nD) (bt : Vec Ideal S16x128 .i32) (ln : Vec Ideal S16 .i32) (hr : InRange bt ln) (b : Fin 16)
    (k : Fin 2048) : wpos c bt ln (ix2 b k) = BitVec.ofBool (decide (0 < cnt (Live ln b) (pageOf bt b) c k)) := by
  have h := wgt_apply c bt ln hr b k
  unfold wgt at h
  unfold wpos
  pointwise [k0_pay4]
  rw [h]
  refine congrArg BitVec.ofBool (decide_eq_decide.mpr ?_)
  rw [EReal.coe_pos, Nat.cast_pos]

end Cert.KernelIdeal.Pf
-- ==== Proof.Given.lean ====
/- What the precondition says of the arguments of one device. -/
module

public import proofs.«01_k».proof.Defs
public import proofs.«01_k».proof.Proof.Weights
public import Idealize.ShloMosaic.Lib.Pointwise
public import Idealize.ShloMosaic.Lib.WordArith

@[expose] public section

noncomputable section

namespace Cert.Pre_pages_named_KernelIdeal

open Idealize.ShloMosaic Idealize.ShloMosaic.TcCoe
open Cert.KernelIdeal.Pf (liveW Live)

/-- The bound of the finiteness tests. -/
theorem lit_inf : Ideal.ofBits .f32 0x7F800000#32 = ⊤ := by
  simp [Ideal.ofBits, Ideal.ieee]

/-- A truth value that is the word one is true. -/
theorem of_bit {P : Prop} [Decidable P] (h : BitVec.ofBool (decide P) = 1#1) : P := by
  by_contra hn
  rw [decide_eq_false hn] at h
  exact absurd h (by decide)

/-- A number whose absolute value is below infinity is real. -/
theorem real_of_abs (x : EReal) (h : max x (-x) < ⊤) : x = ((x.toReal : ℝ) : EReal) := by
  refine (EReal.coe_toReal ?_ ?_).symm
  · rintro rfl; simp at h
  · rintro rfl; simp at h

variable [Facts]
variable (Q : FVec Ideal S16x1x16x64 .bf16) (K V : FVec Ideal S128x16x16x64 .bf16) (B : IVec S16x128 32) (L : IVec S16 32)

/-- The query is finite. -/
theorem query_real (h : (fn (F := Ideal) Q K V B L).1 = fun _ => 1#1) (b h' : Fin 16) (d : Fin 64) :
    Q (ix4 b 0 h' d) = (((Q (ix4 b 0 h' d) : EReal).toReal : ℝ) : EReal) := by
  have e : (fn (F := Ideal) Q K V B L).1 (ix4 b 0 h' d)
      = BitVec.ofBool (decide (max (Q (ix4 b 0 h' d) : EReal) (-(Q (ix4 b 0 h' d) : EReal)) < ⊤)) := by
    rw [← lit_inf]
    pointwise [fn, fn_part1]
    rfl
  rw [h] at e
  exact real_of_abs _ (of_bit e.symm)

/-- The keys are finite. -/
theorem keys_real (h : (fn (F := Ideal) Q K V B L).2.1 = fun _ => 1#1) (p : Fin 128) (r h' : Fin 16) (d : Fin 64) :
    K (ix4 p r h' d) = (((K (ix4 p r h' d) : EReal).toReal : ℝ) : EReal) := by
  have e : (fn (F := Ideal) Q K V B L).2.1 (ix4 p r h' d)
      = BitVec.ofBool (decide (max (K (ix4 p r h' d) : EReal) (-(K (ix4 p r h' d) : EReal)) < ⊤)) := by
    rw [← lit_inf]
    pointwise [fn, fn_part1]
    rfl
  rw [h] at e
  exact real_of_abs _ (of_bit e.symm)

/-- No request is empty. -/
theorem first_live (h : (fn (F := Ideal) Q K V B L).2.2.1 = fun _ => 1#1) (b : Fin 16) : Live L b 0 := by
  have e : (fn (F := Ideal) Q K V B L).2.2.1 (ix1 b) = IntOp.cmpi .sgt (L (ix1 b)) 0#32 := by
    pointwise [fn, fn_part1]
  rw [h] at e
  exact e.symm

/-- The live slots name pages that exist. -/
theorem in_range (h : (fn (F := Ideal) Q K V B L).2.2.2 = fun _ => 1#1) : Cert.KernelIdeal.Pf.InRange B L := by
  intro b n hl
  have e : (fn (F := Ideal) Q K V B L).2.2.2 (ix2 b n)
      = IntOp.ori (~~~ liveW L b n)
        (IntOp.andi (IntOp.cmpi .sge (B (ix2 b n)) 0#32) (IntOp.cmpi .slt (B (ix2 b n)) 4096#32)) := by
    unfold liveW
    pointwise [fn, fn_part1]
  rw [h, show liveW L b n = 1#1 from hl] at e
  generalize B (ix2 b n) = x at e ⊢
  have e' : 1#1 = (~~~ 1#1) ||| (BitVec.ofBool ((0#32).sle x) &&& BitVec.ofBool (x.slt 4096#32)) := e
  have h1 : (0#32).sle x = true := by
    cases h1 : (0#32).sle x with
    | true => rfl
    | false => rw [h1] at e'; revert e'; cases x.slt 4096#32 <;> decide
  have h2 : x.slt 4096#32 = true := by
    cases h2 : x.slt 4096#32 with
    | true => rfl
    | false => rw [h1, h2] at e'; revert e'; decide
  exact WordArith.toNat_lt_of_zero_sle_of_slt_ofNat x 4096 (by norm_num) h1 h2

end Cert.Pre_pages_named_KernelIdeal
-- ==== Proof.Merged.lean ====
/- The kernel's result over the extended reals: the softmax, over all pages and rows as often as the table names them. -/
module

public import proofs.«01_k».proof.Proof.Weights

@[expose] public section

noncomputable section

namespace Cert.KernelIdeal.Pf

open Cert.KernelIdeal Cert.KernelIdeal.Gen Cert.Count Cert.Softmax
open Idealize.ShloMosaic Idealize.ShloMosaic.TcCoe

/-! ## The literals -/

theorem lit_bf16 : Ideal.ofBits .bf16 0x3E00#16 = ((1 / 8 : ℝ) : EReal) := by
  simp [Ideal.ofBits, Ideal.ieee, -EReal.coe_mul]; norm_num
theorem lit_bot : Ideal.ofBits .f32 0xFF800000#32 = ⊥ := by
  simp [Ideal.ofBits, Ideal.ieee]
/-- The score of a key of weight zero. -/
theorem lit_mask : ∃ t : ℝ, Ideal.ofBits .f32 0xF149F2CA#32 = (t : EReal) :=
  ⟨_, by simp [Ideal.ofBits, Ideal.ieee, -EReal.coe_mul]; rfl⟩

/-- The score of a row of a page: the scaled inner product of its key with the query. -/
def sc (q : Fin 16 → Fin 16 → Fin 64 → ℝ) (kk : Fin 4096 → Fin 16 → Fin 16 → Fin 64 → ℝ) (b h : Fin 16) (P : Fin 4096)
    (r : Fin 16) : ℝ := (∑ d, q b h d * kk P r h d) * (1 / 8)

section

variable (m : (ℓ : Loc nD τ sig) → Buf (Elt Ideal) ℓ)
variable (q : Fin 16 → Fin 16 → Fin 64 → ℝ) (kk : Fin 4096 → Fin 16 → Fin 16 → Fin 64 → ℝ)
variable (vv : Fin 4096 → Fin 16 → Fin 16 → Fin 64 → EReal) (bt : IVec S16x128 32) (ln : IVec S16 32)

/-- What the argument buffers hold: the query, the table and the lengths whole, the keys and values one run of pages per
    device. -/
structure Held : Prop where
  hQ : ∀ (c : Dev nD) b h d, m ((c : Thread nD τ).loc main_arg0) (ix4 b 0 h d) = (q b h d : EReal)
  hK : ∀ (c : Dev nD) (k : Fin 2048) h d,
    m ((c : Thread nD τ).loc main_arg1) (ix4 (⟨k.val / 16, by omega⟩ : Fin 128) (⟨k.val % 16, by omega⟩ : Fin 16) h d) = (kk (gp c k) (gr k) h d : EReal)
  hV : ∀ (c : Dev nD) (k : Fin 2048) h d,
    m ((c : Thread nD τ).loc main_arg2) (ix4 (⟨k.val / 16, by omega⟩ : Fin 128) (⟨k.val % 16, by omega⟩ : Fin 16) h d) = vv (gp c k) (gr k) h d
  hB : ∀ c : Dev nD, m ((c : Thread nD τ).loc main_arg3) = bt
  hL : ∀ c : Dev nD, m ((c : Thread nD τ).loc main_arg4) = ln
  hr : InRange bt ln

variable {m q kk vv bt ln} (H : Held m q kk vv bt ln)
include H

theorem ldB_eq (c : Dev nD) : ldB m c = bt := by
  rw [← H.hB c]
  funext i
  rw [show i = ix2 (i 0) (i 1) from eq_ix2 i]
  exact ldB_apply m c _ _
theorem ldL_eq (c : Dev nD) : ldL m c = ln := by
  rw [← H.hL c]
  funext i
  rw [show i = ix1 (i 0) from eq_ix1 i]
  exact ldL_apply m c _

theorem wOf_apply (c : Dev nD) (b : Fin 16) (k : Fin 2048) :
    wOf m c (ix2 b k) = ((cnt (Live ln b) (pageOf bt b) c k : ℝ) : EReal) := by
  unfold wOf
  rw [ldB_eq H, ldL_eq H]
  exact wgt_apply c bt ln H.hr b k

theorem score_apply (t : ℝ) (ht : Ideal.ofBits .f32 0xF149F2CA#32 = (t : EReal)) (c : Dev nD) (b h : Fin 16) (k : Fin 2048) :
    k0_pay7 (pOf m c) (k0_pay5 (ldQ m c h)) (k0_pay6 (ldK m c h)) (ix2 b k)
      = cscore (cnt (Live ln b) (pageOf bt b)) (fun c k => sc q kk b h (gp c k) (gr k)) t c k := by
  have hp : pOf m c (ix2 b k) = BitVec.ofBool (decide (0 < cnt (Live ln b) (pageOf bt b) c k)) := by
    unfold pOf
    rw [ldB_eq H, ldL_eq H]
    exact wpos_apply c bt ln H.hr b k
  have hs : (∑ x, k0_pay5 (ldQ m c h) (ix2 b x) * k0_pay6 (ldK m c h) (ix2 k x))
      = (sc q kk b h (gp c k) (gr k) : EReal) := by
    unfold sc
    rw [Finset.sum_mul, coe_sum]
    refine Finset.sum_congr rfl fun d _ => ?_
    pointwise [k0_pay5, k0_pay6]
    rw [ldQ_apply, ldK_apply, H.hQ, H.hK, lit_bf16, ← EReal.coe_mul, ← EReal.coe_mul]
    congr 1; ring
  pointwise [k0_pay7]
  rw [hp, hs, ht]
  unfold cscore Scalar.select
  by_cases h0 : 0 < cnt (Live ln b) (pageOf bt b) c k
  · rw [if_pos h0, decide_eq_true h0]; rfl
  · rw [if_neg h0, decide_eq_false h0]; rfl

theorem max_apply (t : ℝ) (ht : Ideal.ofBits .f32 0xF149F2CA#32 = (t : EReal)) (c : Dev nD) (b h : Fin 16) :
    k0_pay8 (pOf m c) (k0_pay5 (ldQ m c h)) (k0_pay6 (ldK m c h)) (ix2 b 0)
      = Finset.univ.fold max ⊥ (cscore (cnt (Live ln b) (pageOf bt b)) (fun c k => sc q kk b h (gp c k) (gr k)) t c) := by
  pointwise [k0_pay8]
  rw [lit_bot]
  exact Finset.fold_congr fun k _ => score_apply H t ht c b h k

/-- One entry of the result. -/
theorem outA_apply (hl : ∀ b, ∃ n, Live ln b n) (b h : Fin 16) (d : Fin 64) :
    outA m (ix4 b 0 h d)
      = ∑ c, ∑ k, (((cnt (Live ln b) (pageOf bt b) c k : ℝ) * Real.exp (sc q kk b h (gp c k) (gr k))
        / cmass (cnt (Live ln b) (pageOf bt b)) (fun c k => sc q kk b h (gp c k) (gr k)) : ℝ) : EReal)
          * vv (gp c k) (gr k) h d := by
  obtain ⟨t, ht⟩ := lit_mask
  obtain ⟨n, hn⟩ := hl b
  have hpos := cnt_pos (Live ln b) (pageOf bt b) n hn
  refine Eq.trans ?_ (many_lists (cnt (Live ln b) (pageOf bt b)) (fun c k => sc q kk b h (gp c k) (gr k)) t
    (fun c k => vv (gp c k) (gr k) h d) hpos
    (fun c => Finset.univ.fold max ⊥ (cscore (cnt (Live ln b) (pageOf bt b)) (fun c k => sc q kk b h (gp c k) (gr k)) t c))
    _ (fun c => rfl) rfl)
  have hM : ∀ c : Dev nD, gM.view.readAt (Elt Ideal) (rGM h).toLoadRect (gat m) (ix4 c 0 b 0)
      = Finset.univ.fold max ⊥ (cscore (cnt (Live ln b) (pageOf bt b)) (fun c k => sc q kk b h (gp c k) (gr k)) t c) := fun c => by
    rw [gM_apply]
    unfold partM
    pointwise [k0_pay11]
    exact max_apply H t ht c b h
  have hL : ∀ c : Dev nD, gM.view.readAt (Elt Ideal) (rGL h).toLoadRect (gat m) (ix4 c 0 b 0)
      = ∑ k, Ideal.exp (cscore (cnt (Live ln b) (pageOf bt b)) (fun c k => sc q kk b h (gp c k) (gr k)) t c k
          - Finset.univ.fold max ⊥ (cscore (cnt (Live ln b) (pageOf bt b)) (fun c k => sc q kk b h (gp c k) (gr k)) t c))
        * ((cnt (Live ln b) (pageOf bt b) c k : ℝ) : EReal) := fun c => by
    rw [gL_apply]
    unfold partL
    pointwise [k0_pay12]
    refine Finset.sum_congr rfl fun k _ => ?_
    pointwise [k0_pay9]
    rw [score_apply H t ht, max_apply H t ht, wOf_apply H]
  have hO : ∀ c : Dev nD, gM.view.readAt (Elt Ideal) (rGO h).toLoadRect (gat m) (ix4 c 0 b d)
      = ∑ k, Ideal.exp (cscore (cnt (Live ln b) (pageOf bt b)) (fun c k => sc q kk b h (gp c k) (gr k)) t c k
          - Finset.univ.fold max ⊥ (cscore (cnt (Live ln b) (pageOf bt b)) (fun c k => sc q kk b h (gp c k) (gr k)) t c))
        * ((cnt (Live ln b) (pageOf bt b) c k : ℝ) : EReal) * vv (gp c k) (gr k) h d := fun c => by
    rw [gO_apply]
    unfold partO
    pointwise [k0_pay10]
    refine Finset.sum_congr rfl fun k _ => ?_
    rw [ldV_apply, H.hV]
    pointwise [k0_pay9]
    rw [score_apply H t ht, max_apply H t ht, wOf_apply H]
  have e : outA m (ix4 b 0 h d) = outH m h (ix4 b 0 0 d) := by
    show outH m h _ = _
    rw [ix4_eq_valueIdx]
    rfl
  rw [e]
  unfold outH
  pointwise [k0_pay124]
  simp only [hM, hL, hO, lit_bot]

end

end Cert.KernelIdeal.Pf
-- ==== Proof.Plain.lean ====
/- The reference's result over the extended reals, read at one element. -/
module

public import proofs.«01_k».proof.Proof.Merged
public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen
open Idealize.ShloMosaic Idealize.ShloMosaic.TcCoe
open Cert.KernelIdeal.Pf (liveW Live pageOf sc lit_bot)
open Cert.Softmax Cert.Count

/-! ## The result in pieces -/

/-- The page number each table entry names, a negative one counted from the end. -/
def words (m : (ℓ : Loc nD τ sig) → Buf (Elt Ideal) ℓ) (c : Dev nD) : IVec S16x128x1 32 :=
  broadcastInDim S16x128x1 ![0, 1] bcast_S16x128_S16x128x1_0_1 (select (cmpi .slt (m ((c.tc : Thread nD τ).loc main_arg3)) (broadcastInDim S16x128 ![] bcast_S_S16x128 (constantI S_ 32 0#32))) (addi (m ((c.tc : Thread nD τ).loc main_arg3)) (broadcastInDim S16x128 ![] bcast_S_S16x128 (constantI S_ 32 4096#32))) (m ((c.tc : Thread nD τ).loc main_arg3)))

/-- The keys of the pages the table names. -/
def gK (m : (ℓ : Loc nD τ sig) → Buf (Elt Ideal) ℓ) (c : Dev nD) : FVec Ideal S16x128x16x16x64 .f32 :=
  Host.gather gather_S4096x16x16x64_S16x128x1_S16x128x16x16x64_234_0_n_n_0_2_1161664 (extf .f32 (m ((c.tc : Thread nD τ).loc main_arg1)) bitsLt_bf16_f32) (words m c)

/-- The values of the pages the table names. -/
def gV (m : (ℓ : Loc nD τ sig) → Buf (Elt Ideal) ℓ) (c : Dev nD) : FVec Ideal S16x128x16x16x64 .f32 :=
  Host.gather gather_S4096x16x16x64_S16x128x1_S16x128x16x16x64_234_0_n_n_0_2_1161664 (extf .f32 (m ((c.tc : Thread nD τ).loc main_arg2)) bitsLt_bf16_f32) (words m c)

/-- The scores, bottom at the dead slots. -/
def sC (m : (ℓ : Loc nD τ sig) → Buf (Elt Ideal) ℓ) (c : Dev nD) : FVec Ideal S16x16x1x128x16 .f32 :=
  select (broadcastInDim S16x16x1x128x16 ![0, 1, 2, 3, 4] bcast_S16x1x1x128x1_S16x16x1x128x16_0_1_2_3_4 (broadcastInDim S16x1x1x128x1 ![0, 3] bcast_S16x128_S16x1x1x128x1_0_3 (cmpi .slt (broadcastInDim S16x128 ![0, 1] bcast_S1x128_S16x128_0_1 (broadcastInDim S1x128 ![1] bcast_S128_S1x128_1 (iotaInDim S128 32 0))) (broadcastInDim S16x128 ![0, 1] bcast_S16x1_S16x128_0_1 (broadcastInDim S16x1 ![0] bcast_S16_S16x1_0 (m ((c.tc : Thread nD τ).loc main_arg4))))))) (mulf (Host.dotGeneral dot_S16x1x16x64_S16x128x16x16x64_S16x16x1x128x16_3_4_1_12_02_03 none (extf .f32 (m ((c.tc : Thread nD τ).loc main_arg0)) bitsLt_bf16_f32) (gK m c)) (broadcastInDim S16x16x1x128x16 ![] bcast_S_S16x16x1x128x16 (constant S_ .f32 0x3E000000#32))) (broadcastInDim S16x16x1x128x16 ![] bcast_S_S16x16x1x128x16 (id (constant S_ .f32 0xFF800000#32)))

/-- The exponentials of the scores less their largest. -/
def eX (m : (ℓ : Loc nD τ sig) → Buf (Elt Ideal) ℓ) (c : Dev nD) : FVec Ideal S16x16x1x128x16 .f32 :=
  Host.exp (subf (sC m c) (broadcastInDim S16x16x1x128x16 ![0, 1, 2, 3, 4] bcast_S16x16x1x1x1_S16x16x1x128x16_0_1_2_3_4 (broadcastInDim S16x16x1x1x1 ![0, 1, 2] bcast_S16x16x1_S16x16x1x1x1_0_1_2 (Host.reduce FloatOps.maximumf (sC m c) (constant S_ .f32 0xFF800000#32) reducesTo_S16x16x1x128x16_S16x16x1_d3_4 h_S_))))

/-- The result, of the exponentials. -/
theorem res_eq (m : (ℓ : Loc nD τ sig) → Buf (Elt Ideal) ℓ) (c : Dev nD) : res_main_v38 m c =
    transpose S16x1x16x64 [0, 3, 1, 2] (Host.dotGeneral dot_S16x128x16x16x64_S16x16x1x128x16_S16x16x64x1_12_34_4_2_03_01 none (gV m c) (Host.divf (eX m c) (broadcastInDim S16x16x1x128x16 ![0, 1, 2, 3, 4] bcast_S16x16x1x1x1_S16x16x1x128x16_0_1_2_3_4 (broadcastInDim S16x16x1x1x1 ![0, 1, 2] bcast_S16x16x1_S16x16x1x1x1_0_1_2 (Host.reduceAdd (eX m c) (constant S_ .f32 0x00000000#32) reducesTo_S16x16x1x128x16_S16x16x1_d3_4 h_S_))))) transposes_S16x16x64x1_S16x1x16x64_0_3_1_2 := rfl

/-! ## The operations that read several elements -/

/-- One element of the pages gathered: the page a slot's word names. -/
theorem gather_apply {α : Type} (x : S4096x16x16x64.Idx → α) (idx : IVec S16x128x1 32) (b : Fin 16) (n : Fin 128) (r h : Fin 16)
    (d : Fin 64) (p : Fin 4096) (hp : (idx (ix3 b n 0)).toInt.toNat = p.val) :
    Host.gather gather_S4096x16x16x64_S16x128x1_S16x128x16x16x64_234_0_n_n_0_2_1161664 x idx (ix5 b n r h d) = x (ix4 p r h d) := by
  unfold Host.gather
  congr 1
  funext a
  refine Fin.ext ?_
  match a with
  | ⟨0, _⟩ =>
    show min (idx _).toInt.toNat (4096 - 1) + 0 + 0 = p.val
    have hs : gather_S4096x16x16x64_S16x128x1_S16x128x16x16x64_234_0_n_n_0_2_1161664.siIdx (ix5 b n r h d)
        (⟨0, Nat.one_pos⟩ : Fin 1) = ix3 b n 0 := by
      funext a
      refine Fin.ext ?_
      match a with
      | ⟨0, _⟩ => rfl
      | ⟨1, _⟩ => rfl
      | ⟨2, _⟩ => rfl
    refine Eq.trans (congrArg (fun i => min (idx i).toInt.toNat (4096 - 1) + 0 + 0) hs) ?_
    have := p.isLt
    show min (idx (ix3 b n 0)).toInt.toNat (4096 - 1) + 0 + 0 = p.val
    omega
  | ⟨1, _⟩ => show 0 + 0 + r.val = r.val; omega
  | ⟨2, _⟩ => show 0 + 0 + h.val = h.val; omega
  | ⟨3, _⟩ => show 0 + 0 + d.val = d.val; omega

/-- The indices the reduction sends to one element are those of a slot and a row. -/
theorem fiber (b h : Fin 16) :
    (Finset.univ.filter fun i : S16x16x1x128x16.Idx => reducesTo_S16x16x1x128x16_S16x16x1_d3_4.drop i = ix3 b h 0)
      = Finset.univ.map ⟨fun j : Fin 128 × Fin 16 => (ix5 b h 0 j.1 j.2 : S16x16x1x128x16.Idx), fun j j' e => by
          have h3 := congrFun e 3; have h4 := congrFun e 4
          exact Prod.ext h3 h4⟩ := by
  ext i
  simp only [Finset.mem_filter, Finset.mem_univ, true_and, Finset.mem_map, Function.Embedding.coeFn_mk]
  have e0 := reducesTo_S16x16x1x128x16_S16x16x1_d3_4.drop_apply_val_of_eq i 0 0
  have e1 := reducesTo_S16x16x1x128x16_S16x16x1_d3_4.drop_apply_val_of_eq i 1 1
  constructor
  · intro e
    rw [e] at e0 e1
    refine ⟨(i 3, i 4), ?_⟩
    funext a
    refine Fin.ext ?_
    match a with
    | ⟨0, _⟩ => exact e0
    | ⟨1, _⟩ => exact e1
    | ⟨2, _⟩ => have := (i 2).isLt; show 0 = (i 2).val; have h1 : S16x16x1x128x16.size 2 = 1 := rfl; omega
    | ⟨3, _⟩ => rfl
    | ⟨4, _⟩ => rfl
  · rintro ⟨j, rfl⟩
    funext a
    refine Fin.ext ?_
    match a with
    | ⟨0, _⟩ => exact e0
    | ⟨1, _⟩ => exact e1
    | ⟨2, _⟩ => exact (Nat.lt_one_iff.mp (Fin.isLt _)).trans (Nat.lt_one_iff.mp (Fin.isLt _)).symm

/-- The scale of the scores. -/
theorem lit_f32 : Ideal.ofBits .f32 0x3E000000#32 = ((1 / 8 : ℝ) : EReal) := by
  simp [Ideal.ofBits, Ideal.ieee, -EReal.coe_mul]; norm_num

/-- A one-bit word that is not one is zero. -/
theorem bit_zero (x : BitVec 1) (h : ¬ x = 1#1) : x = 0#1 := by
  revert x; decide

/-- A word naming a page reads the same with its sign and without. -/
theorem page_word (x : BitVec 32) (h : x.toNat < 4096) :
    Scalar.select (IntOp.cmpi CmpIPredicate.slt x 0#32) (IntOp.addi x 4096#32) x = x ∧ x.toInt.toNat = x.toNat := by
  have e : x.toInt = (x.toNat : ℤ) := by rw [BitVec.toInt_eq_toNat_cond, if_pos (by omega)]
  refine ⟨?_, by rw [e]; rfl⟩
  have : IntOp.cmpi CmpIPredicate.slt x 0#32 = 0#1 := by
    show BitVec.ofBool (x.slt 0#32) = 0#1
    have : x.slt 0#32 = false := by
      rw [BitVec.slt_eq_decide, e]; simp
    rw [this]; rfl
  rw [this]
  rfl

/-! ## The result -/

section

variable (m : (ℓ : Loc nD τ sig) → Buf (Elt Ideal) ℓ) (c : Dev nD)
variable (q : Fin 16 → Fin 16 → Fin 64 → ℝ) (kk : Fin 4096 → Fin 16 → Fin 16 → Fin 64 → ℝ)
variable (vv : Fin 4096 → Fin 16 → Fin 16 → Fin 64 → EReal) (bt : IVec S16x128 32) (ln : IVec S16 32)

/-- What the reference's arguments hold. -/
structure Given : Prop where
  hQ : ∀ b h d, m ((c.tc : Thread nD τ).loc main_arg0) (ix4 b 0 h d) = (q b h d : EReal)
  hK : ∀ P r h d, m ((c.tc : Thread nD τ).loc main_arg1) (ix4 P r h d) = (kk P r h d : EReal)
  hV : ∀ P r h d, m ((c.tc : Thread nD τ).loc main_arg2) (ix4 P r h d) = vv P r h d
  hB : m ((c.tc : Thread nD τ).loc main_arg3) = bt
  hL : m ((c.tc : Thread nD τ).loc main_arg4) = ln
  hr : Cert.KernelIdeal.Pf.InRange bt ln

variable {m c q kk vv bt ln} (H : Given m c q kk vv bt ln)
include H

theorem word_eq (b : Fin 16) (n : Fin 128) (hl : Live ln b n) :
    (words m c (ix3 b n 0)).toInt.toNat = (pageOf bt b n).val := by
  have hr := H.hr b n hl
  obtain ⟨e1, e2⟩ := page_word _ hr
  have : words m c (ix3 b n 0) = bt (ix2 b n) := by
    rw [← e1, ← H.hB]
    pointwise [words]
  rw [this, e2]
  exact (Nat.mod_eq_of_lt hr).symm

theorem gK_apply (b : Fin 16) (n : Fin 128) (hl : Live ln b n) (r h : Fin 16) (d : Fin 64) :
    gK m c (ix5 b n r h d) = (kk (pageOf bt b n) r h d : EReal) := by
  rw [← H.hK]
  exact gather_apply _ _ b n r h d (pageOf bt b n) (word_eq H b n hl)
theorem gV_apply (b : Fin 16) (n : Fin 128) (hl : Live ln b n) (r h : Fin 16) (d : Fin 64) :
    gV m c (ix5 b n r h d) = vv (pageOf bt b n) r h d := by
  rw [← H.hV]
  exact gather_apply _ _ b n r h d (pageOf bt b n) (word_eq H b n hl)

theorem sC_apply (b h : Fin 16) (n : Fin 128) (r : Fin 16) :
    sC m c (ix5 b h 0 n r)
      = score (fun j : Fin 128 × Fin 16 => Live ln b j.1) (fun j => sc q kk b h (pageOf bt b j.1) j.2) (n, r) := by
  have e : sC m c (ix5 b h 0 n r) = Scalar.select (liveW ln b n)
      ((∑ x, (q b h x : EReal) * gK m c (ix5 b n r h x)) * ((1 / 8 : ℝ) : EReal)) ⊥ := by
    rw [← lit_f32, ← lit_bot, ← H.hL]
    simp only [← H.hQ]
    unfold liveW
    pointwise [sC]
    rfl
  rw [e]
  unfold score
  by_cases hl : Live ln b n
  · rw [if_pos hl, show liveW ln b n = 1#1 from hl]
    show (∑ x, (q b h x : EReal) * gK m c (ix5 b n r h x)) * ((1 / 8 : ℝ) : EReal) = _
    unfold sc
    rw [EReal.coe_mul, coe_sum]
    congr 1
    refine Finset.sum_congr rfl fun x _ => ?_
    rw [gK_apply H b n hl, EReal.coe_mul]
  · rw [if_neg hl, bit_zero _ hl]
    rfl

theorem eX_apply (b h : Fin 16) (j : Fin 128 × Fin 16) :
    eX m c (ix5 b h 0 j.1 j.2) = Ideal.exp (score (fun j : Fin 128 × Fin 16 => Live ln b j.1)
        (fun j => sc q kk b h (pageOf bt b j.1) j.2) j
      - Finset.univ.fold max ⊥ (score (fun j : Fin 128 × Fin 16 => Live ln b j.1)
        (fun j => sc q kk b h (pageOf bt b j.1) j.2))) := by
  have e : eX m c (ix5 b h 0 j.1 j.2) = Ideal.exp (sC m c (ix5 b h 0 j.1 j.2)
      - Finset.fold max (⊥ : EReal) (sC m c)
        (Finset.univ.filter fun i : S16x16x1x128x16.Idx => reducesTo_S16x16x1x128x16_S16x16x1_d3_4.drop i = ix3 b h 0)) := by
    rw [← lit_bot]
    pointwise [eX]
  rw [e, fiber, Finset.fold_map, sC_apply H]
  congr 3
  funext j
  exact sC_apply H b h j.1 j.2

/-- One element of the reference's result: the softmax over all pages and rows, each as often as the table names it. -/
theorem res_apply (hl : ∀ b, ∃ n, Live ln b n) (b h : Fin 16) (d : Fin 64) :
    res_main_v38 m c (ix4 b 0 h d)
      = (∑ c, ∑ k, (((cnt (Live ln b) (pageOf bt b) c k : ℝ) * Real.exp (sc q kk b h (gp c k) (gr k))
        / cmass (cnt (Live ln b) (pageOf bt b)) (fun c k => sc q kk b h (gp c k) (gr k)) : ℝ) : EReal)
          * vv (gp c k) (gr k) h d : EReal) := by
  have e : (res_main_v38 m c (ix4 b 0 h d) : EReal) = ∑ x : Fin 128, ∑ x_1 : Fin 16, gV m c (ix5 b x x_1 h d) *
          Ideal.div (eX m c (ix5 b h 0 x x_1))
            (Ideal.hostReduceAdd reducesTo_S16x16x1x128x16_S16x16x1_d3_4 (eX m c) 0 (ix3 b h 0)) := by
    rw [res_eq]
    pointwise
  obtain ⟨n, hn⟩ := hl b
  have hsum : Ideal.hostReduceAdd reducesTo_S16x16x1x128x16_S16x16x1_d3_4 (eX m c) 0 (ix3 b h 0)
      = ∑ j : Fin 128 × Fin 16, eX m c (ix5 b h 0 j.1 j.2) := by
    show (0 : EReal) + ∑ i ∈ Finset.univ.filter
      (fun i : S16x16x1x128x16.Idx => reducesTo_S16x16x1x128x16_S16x16x1_d3_4.drop i = ix3 b h 0), eX m c i = _
    rw [fiber, Finset.sum_map, zero_add]
    rfl
  rw [e, hsum, ← Fintype.sum_prod_type' (f := fun (x : Fin 128) (x_1 : Fin 16) => gV m c (ix5 b x x_1 h d) *
          Ideal.div (eX m c (ix5 b h 0 x x_1)) (∑ j : Fin 128 × Fin 16, eX m c (ix5 b h 0 j.1 j.2)))]
  simp only [eX_apply H]
  rw [one_list (fun j : Fin 128 × Fin 16 => Live ln b j.1) (fun j => sc q kk b h (pageOf bt b j.1) j.2)
    (fun j => gV m c (ix5 b j.1 j.2 h d)) ⟨(n, 0), hn⟩ _ rfl]
  refine @Eq.trans EReal _ _ _ ?_ (softmax_eq (Live ln b) (pageOf bt b) (fun P r => sc q kk b h P r) (fun P r => vv P r h d))
  refine Finset.sum_congr rfl fun j _ => ?_
  by_cases hj : Live ln b j.1
  · rw [gV_apply H b j.1 hj]
  · rw [if_neg hj, zero_div, EReal.coe_zero, zero_mul, zero_mul]

end

end Cert.ReferenceIdeal.Value
-- ==== Proof.Value.lean ====
/- The value claim: on every device the kernel's result is the reference's. -/
module

public import proofs.«01_k».proof.Proof.Frames
public import proofs.«01_k».proof.Proof.Given
public import proofs.«01_k».proof.Proof.Plain
public import Idealize.ShloMosaic.Lib.Layout

@[expose] public section

noncomputable section

namespace Cert.Proof

open Idealize.ShloMosaic Idealize.SL.Sem Idealize.ShloMosaic.TcCoe
open Cert.Count Cert.KernelIdeal.Pf

/-- The whole array's index of a block's element: the block's pages come after those of the blocks before it. -/
theorem block_page {α : Type} (v : Cert.ReferenceIdeal.S4096x16x16x64.Idx → α) (c : Fin 32) (k : Fin 2048) (h : Fin 16) (d : Fin 64) :
    (Layout.block ⟨4, ![128, 16, 16, 64]⟩ ⟨4, ![4096, 16, 16, 64]⟩ 0 32 c v)
      (ix4 (⟨k.val / 16, by omega⟩ : Fin 128) (⟨k.val % 16, by omega⟩ : Fin 16) h d) = v (ix4 (gp c k) (gr k) h d) := by
  rw [Layout.block_apply]
  congr 1
  funext a
  refine Fin.ext ?_
  match a with
  | ⟨0, _⟩ => rfl
  | ⟨1, _⟩ => rfl
  | ⟨2, _⟩ => rfl
  | ⟨3, _⟩ => rfl

/-- Every page is some device's. -/
theorem page_device (P : Fin 4096) (r : Fin 16) : ∃ (c : Fin 32) (k : Fin 2048), gp c k = P ∧ gr k = r := by
  refine ⟨⟨P.val / 128, by omega⟩, ⟨P.val % 128 * 16 + r.val, by omega⟩, Fin.ext ?_, Fin.ext ?_⟩
  · show P.val / 128 * 128 + (P.val % 128 * 16 + r.val) / 16 = P.val
    omega
  · show (P.val % 128 * 16 + r.val) % 16 = r.val
    omega

theorem value [Cert.Pre_pages_named_KernelIdeal.Facts] :
    Cert.algebraic_KernelIdeal_ReferenceIdeal_pre_pages_named_KernelIdeal := by
  intro m g m' g' hp ha
  refine ⟨Cert.ReferenceIdeal.Value.res_main_v38 m' 0, ?_,
    (θ_run Cert.ReferenceIdeal.defs _ _).mono (fun r h => h 0) (Cert.ReferenceIdeal.Value.run (F := Ideal) m' g')⟩
  refine (θ_run Cert.KernelIdeal.defs _ _).mono (fun r h c => ⟨(h.1 c).1.trans ?_, (h.1 c).2⟩)
    (Cert.KernelIdeal.Pf.run_main (F := Ideal) m g)
  obtain ⟨p1, p2, p3, p4⟩ := hp 0
  obtain ⟨-, -, -, a3, a4⟩ := ha 0
  rw [a3, a4] at p3 p4
  have hr := Cert.Pre_pages_named_KernelIdeal.in_range _ _ _ _ _ p4
  have hl := Cert.Pre_pages_named_KernelIdeal.first_live _ _ _ _ _ p3
  have hQ : ∀ b h d, (m' (((0 : Dev Cert.ReferenceIdeal.nD).tc : Thread Cert.ReferenceIdeal.nD Cert.ReferenceIdeal.τ).loc Cert.ReferenceIdeal.main_arg0) (ix4 b 0 h d) : EReal)
      = (((m' (((0 : Dev Cert.ReferenceIdeal.nD).tc : Thread Cert.ReferenceIdeal.nD Cert.ReferenceIdeal.τ).loc Cert.ReferenceIdeal.main_arg0) (ix4 b 0 h d) : EReal).toReal : ℝ) : EReal) := by
    intro b h d
    rw [(ha 0).1] at p1
    exact Cert.Pre_pages_named_KernelIdeal.query_real _ _ _ _ _ p1 b h d
  have hK : ∀ P r h d, (m' (((0 : Dev Cert.ReferenceIdeal.nD).tc : Thread Cert.ReferenceIdeal.nD Cert.ReferenceIdeal.τ).loc Cert.ReferenceIdeal.main_arg1) (ix4 P r h d) : EReal)
      = (((m' (((0 : Dev Cert.ReferenceIdeal.nD).tc : Thread Cert.ReferenceIdeal.nD Cert.ReferenceIdeal.τ).loc Cert.ReferenceIdeal.main_arg1) (ix4 P r h d) : EReal).toReal : ℝ) : EReal) := by
    intro P r h d
    obtain ⟨c, k, rfl, rfl⟩ := page_device P r
    have q2 := (hp c).2.1
    rw [(ha c).2.1] at q2
    have := Cert.Pre_pages_named_KernelIdeal.keys_real _ _ _ _ _ q2 (⟨k.val / 16, by omega⟩ : Fin 128) (⟨k.val % 16, by omega⟩ : Fin 16) h d
    rw [block_page] at this
    exact this
  have H : Held m (fun b h d => (m' (((0 : Dev Cert.ReferenceIdeal.nD).tc : Thread Cert.ReferenceIdeal.nD Cert.ReferenceIdeal.τ).loc Cert.ReferenceIdeal.main_arg0) (ix4 b 0 h d) : EReal).toReal)
      (fun P r h d => (m' (((0 : Dev Cert.ReferenceIdeal.nD).tc : Thread Cert.ReferenceIdeal.nD Cert.ReferenceIdeal.τ).loc Cert.ReferenceIdeal.main_arg1) (ix4 P r h d) : EReal).toReal)
      (fun P r h d => m' (((0 : Dev Cert.ReferenceIdeal.nD).tc : Thread Cert.ReferenceIdeal.nD Cert.ReferenceIdeal.τ).loc Cert.ReferenceIdeal.main_arg2) (ix4 P r h d))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hQ := fun c b h d => (congrFun (ha c).1 _).trans (hQ b h d)
      hK := fun c k h d => ((congrFun (ha c).2.1 _).trans (block_page _ c k h d)).trans (hK _ _ h d)
      hV := fun c k h d => (congrFun (ha c).2.2.1 _).trans (block_page _ c k h d)
      hB := fun c => (ha c).2.2.2.1
      hL := fun c => (ha c).2.2.2.2
      hr := hr }
  have G : Cert.ReferenceIdeal.Value.Given m' 0 (fun b h d => (m' (((0 : Dev Cert.ReferenceIdeal.nD).tc : Thread Cert.ReferenceIdeal.nD Cert.ReferenceIdeal.τ).loc Cert.ReferenceIdeal.main_arg0) (ix4 b 0 h d) : EReal).toReal)
      (fun P r h d => (m' (((0 : Dev Cert.ReferenceIdeal.nD).tc : Thread Cert.ReferenceIdeal.nD Cert.ReferenceIdeal.τ).loc Cert.ReferenceIdeal.main_arg1) (ix4 P r h d) : EReal).toReal)
      (fun P r h d => m' (((0 : Dev Cert.ReferenceIdeal.nD).tc : Thread Cert.ReferenceIdeal.nD Cert.ReferenceIdeal.τ).loc Cert.ReferenceIdeal.main_arg2) (ix4 P r h d))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hQ := hQ, hK := hK, hV := fun _ _ _ _ => rfl, hB := rfl, hL := rfl, hr := hr }
  funext i
  have hi : i = (ix4 (i 0) 0 (i 2) (i 3) : Cert.KernelIdeal.S16x1x16x64.Idx) := by
    funext a
    refine Fin.ext ?_
    match a with
    | ⟨0, _⟩ => rfl
    | ⟨1, _⟩ => exact Nat.lt_one_iff.mp (i 1).isLt
    | ⟨2, _⟩ => rfl
    | ⟨3, _⟩ => rfl
  rw [hi]
  exact (outA_apply H (fun b => ⟨0, hl b⟩) (i 0) (i 2) (i 3)).trans
    (Cert.ReferenceIdeal.Value.res_apply G (fun b => ⟨0, hl b⟩) (i 0) (i 2) (i 3)).symm

end Cert.Proof
-- ==== Proof.lean ====
/- The proof of the claims: three frames, the idealization, and the value of every result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  haveI := facts_kernel_pre
  ⟨Cert.Kernel.Gen.facts, Cert.KernelIdeal.Gen.facts, Cert.ReferenceIdeal.Gen.facts, facts_kernel_pre, facts_reference_pre,
    frame_kernel, frame_ideal, fun m g _ => frame_ideal m g trivial, frame_reference, fun m g _ => frame_reference m g trivial,
    trivial, value⟩

end Cert.Proof

end
